-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_third_apart [hPre_finite_and_third_apart : Cert.Pre_finite_and_third_apart.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_third_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_and_third_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_and_third_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_and_third_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_and_third_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_and_third_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_and_third_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_and_third_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_finite_and_third_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_third_apart [hPre_finite_and_third_apart : Cert.Pre_finite_and_third_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_third_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_and_third_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_and_third_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_and_third_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_and_third_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_and_third_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_and_third_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_and_third_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_finite_and_third_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_third_apart [hKernelIdeal : Cert.KernelIdeal.Facts] [hPre_finite_and_third_apart : Cert.Pre_finite_and_third_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_third_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_third_apart [hReferenceIdeal : Cert.ReferenceIdeal.Facts] [hPre_finite_and_third_apart : Cert.Pre_finite_and_third_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_third_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_and_third_apart [hKernelIdeal : Cert.KernelIdeal.Facts] [hReferenceIdeal : Cert.ReferenceIdeal.Facts] [hPre_finite_and_third_apart : Cert.Pre_finite_and_third_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_third_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_and_third_apart : Cert.Pre_finite_and_third_apart.Facts),
    quiescent_Kernel (hKernel := hKernel)
    ∧ quiescent_KernelIdeal (hKernelIdeal := hKernelIdeal)
    ∧ quiescent_KernelIdeal_pre_finite_and_third_apart (hKernelIdeal := hKernelIdeal) (hPre_finite_and_third_apart := hPre_finite_and_third_apart)
    ∧ quiescent_ReferenceIdeal (hReferenceIdeal := hReferenceIdeal)
    ∧ quiescent_ReferenceIdeal_pre_finite_and_third_apart (hReferenceIdeal := hReferenceIdeal) (hPre_finite_and_third_apart := hPre_finite_and_third_apart)
    ∧ preserves_Kernel_KernelIdeal
    ∧ algebraic_KernelIdeal_ReferenceIdeal_pre_finite_and_third_apart (hKernelIdeal := hKernelIdeal) (hReferenceIdeal := hReferenceIdeal) (hPre_finite_and_third_apart := hPre_finite_and_third_apart)
-- ==== Pre_finite_and_third_apart.lean ====
abbrev S8x3x1024 : Shape := ⟨3, ![8, 3, 1024]⟩
abbrev S8x64x1024 : Shape := ⟨3, ![8, 64, 1024]⟩
abbrev S8x3x16384 : Shape := ⟨3, ![8, 3, 16384]⟩
abbrev S8x64x16384 : Shape := ⟨3, ![8, 64, 16384]⟩
abbrev S128x128 : Shape := ⟨2, ![128, 128]⟩
abbrev S128 : Shape := ⟨1, ![128]⟩
abbrev S8x16384x3 : Shape := ⟨3, ![8, 16384, 3]⟩
abbrev S8x1024x3 : Shape := ⟨3, ![8, 1024, 3]⟩
abbrev S_ : Shape := ⟨0, ![]⟩
abbrev S8x16384 : Shape := ⟨2, ![8, 16384]⟩
abbrev S8x16384x1 : Shape := ⟨3, ![8, 16384, 1]⟩
abbrev S8x16384x1024 : Shape := ⟨3, ![8, 16384, 1024]⟩
abbrev S8x1024 : Shape := ⟨2, ![8, 1024]⟩
abbrev S8x1x1024 : Shape := ⟨3, ![8, 1, 1024]⟩
abbrev S8x16384x4 : Shape := ⟨3, ![8, 16384, 4]⟩

class Facts : Prop where
  transposes_S8x3x16384_S8x16384x3_0_2_1 : S8x3x16384.Transposes [0, 2, 1] S8x16384x3
  transposes_S8x3x1024_S8x1024x3_0_2_1 : S8x3x1024.Transposes [0, 2, 1] S8x1024x3
  reducesTo_S8x16384x3_S8x16384_d2 : S8x16384x3.ReducesTo [2] S8x16384
  h_S_ : 0 < S_.numel
  bcast_S8x16384_S8x16384x1_0_1 : S8x16384.BroadcastsInDim S8x16384x1 (![0, 1] : Fin 2 → Fin S8x16384x1.rank)
  bcast_S_S8x16384x1024 : S_.BroadcastsInDim S8x16384x1024 (![] : Fin 0 → Fin S8x16384x1024.rank)
  bcast_S8x16384x1_S8x16384x1024_0_1_2 : S8x16384x1.BroadcastsInDim S8x16384x1024 (![0, 1, 2] : Fin 3 → Fin S8x16384x1024.rank)
  reducesTo_S8x1024x3_S8x1024_d2 : S8x1024x3.ReducesTo [2] S8x1024
  bcast_S8x1024_S8x1x1024_0_2 : S8x1024.BroadcastsInDim S8x1x1024 (![0, 2] : Fin 2 → Fin S8x1x1024.rank)
  bcast_S8x1x1024_S8x16384x1024_0_1_2 : S8x1x1024.BroadcastsInDim S8x16384x1024 (![0, 1, 2] : Fin 3 → Fin S8x16384x1024.rank)
  sliceFits_S8x16384x1024_S8x16384x4 : S8x16384x1024.Slices (fun _ => 0) S8x16384x4
  bcast_S_S8x3x1024 : S_.BroadcastsInDim S8x3x1024 (![] : Fin 0 → Fin S8x3x1024.rank)
  bcast_S_S8x64x1024 : S_.BroadcastsInDim S8x64x1024 (![] : Fin 0 → Fin S8x64x1024.rank)
  bcast_S_S8x3x16384 : S_.BroadcastsInDim S8x3x16384 (![] : Fin 0 → Fin S8x3x16384.rank)
  bcast_S_S8x64x16384 : S_.BroadcastsInDim S8x64x16384 (![] : Fin 0 → Fin S8x64x16384.rank)
  bcast_S_S128x128 : S_.BroadcastsInDim S128x128 (![] : Fin 0 → Fin S128x128.rank)
  bcast_S_S128 : S_.BroadcastsInDim S128 (![] : Fin 0 → Fin S128.rank)
  slices_S8x16384x4_S8x16384x1_0_0_2 : S8x16384x4.Slices ![0, 0, 2] S8x16384x1
  shapeCasts_S8x16384x1_S8x16384 : S8x16384x1.ShapeCasts S8x16384
  slices_S8x16384x4_S8x16384x1_0_0_3 : S8x16384x4.Slices ![0, 0, 3] S8x16384x1
  dot_S8x16384x3_S8x1024x3_S8x16384x1024_2_2_1_1_0_0_wf : DotDims.WF S8x16384x3 S8x1024x3 S8x16384x1024 [2] [2] [1] [1] [0] [0]

variable [Facts]

def dot_S8x16384x3_S8x1024x3_S8x16384x1024_2_2_1_1_0_0 : DotDims S8x16384x3 S8x1024x3 S8x16384x1024 where
  lhsContracting := [2]
  rhsContracting := [2]
  lhsNonContracting := [1]
  rhsNonContracting := [1]
  lhsBatch := [0]
  rhsBatch := [0]
  wf := dot_S8x16384x3_S8x1024x3_S8x16384x1024_2_2_1_1_0_0_wf
def fn_part2 {F : FTy → Type} [FloatOps F] (main_arg7 : FVec F S128 .f32) (main_values : FVec F S8x16384x4 .f32) (main_v18 : IVec S8x3x1024 1) (main_v21 : IVec S8x64x1024 1) (main_v24 : IVec S8x3x16384 1) (main_v27 : IVec S8x64x16384 1) (main_v30 : IVec S128x128 1) (main_v33 : IVec S128 1) (main_v34 : FVec F S128x128 .f32) (main_v35 : FVec F S128x128 .f32) : IVec S8x16384 1 × IVec S8x3x1024 1 × IVec S8x64x1024 1 × IVec S8x3x16384 1 × IVec S8x64x16384 1 × IVec S128x128 1 × IVec S128 1 × IVec S128x128 1 × IVec S128 1 :=
  let main_v36 : IVec S128x128 1 := cmpf .olt main_v34 main_v35
  let main_v37 : FVec F S128 .f32 := Host.absf main_arg7
  let main_cst_9 : FVec F S_ .f32 := constant S_ .f32 0x7F800000#32
  let main_v38 : FVec F S128 .f32 := broadcastInDim S128 ![] bcast_S_S128 main_cst_9
  let main_v39 : IVec S128 1 := cmpf .olt main_v37 main_v38
  let main_v40 : FVec F S8x16384x1 .f32 := (extractStridedSlice S8x16384x1 ![0, 0, 2] · slices_S8x16384x4_S8x16384x1_0_0_2) main_values
  let main_v41 : FVec F S8x16384 .f32 := shapeCast S8x16384 main_v40 shapeCasts_S8x16384x1_S8x16384
  let main_v42 : FVec F S8x16384x1 .f32 := (extractStridedSlice S8x16384x1 ![0, 0, 3] · slices_S8x16384x4_S8x16384x1_0_0_3) main_values
  let main_v43 : FVec F S8x16384 .f32 := shapeCast S8x16384 main_v42 shapeCasts_S8x16384x1_S8x16384
  let main_v44 : IVec S8x16384 1 := cmpf .ogt main_v41 main_v43
  (main_v44, main_v18, main_v21, main_v24, main_v27, main_v30, main_v33, main_v36, main_v39)

def fn_part1 {F : FTy → Type} [FloatOps F] (main_arg1 : FVec F S8x64x1024 .f32) (main_arg2 : FVec F S8x3x16384 .f32) (main_arg3 : FVec F S8x64x16384 .f32) (main_arg4 : FVec F S128x128 .f32) (main_arg5 : FVec F S128 .f32) (main_arg6 : FVec F S128x128 .f32) (main_arg7 : FVec F S128 .f32) (main_values : FVec F S8x16384x4 .f32) (main_v16 : FVec F S8x3x1024 .f32) (main_v17 : FVec F S8x3x1024 .f32) : IVec S8x16384 1 × IVec S8x3x1024 1 × IVec S8x64x1024 1 × IVec S8x3x16384 1 × IVec S8x64x16384 1 × IVec S128x128 1 × IVec S128 1 × IVec S128x128 1 × IVec S128 1 :=
  let main_v18 : IVec S8x3x1024 1 := cmpf .olt main_v16 main_v17
  let main_v19 : FVec F S8x64x1024 .f32 := Host.absf main_arg1
  let main_cst_3 : FVec F S_ .f32 := constant S_ .f32 0x7F800000#32
  let main_v20 : FVec F S8x64x1024 .f32 := broadcastInDim S8x64x1024 ![] bcast_S_S8x64x1024 main_cst_3
  let main_v21 : IVec S8x64x1024 1 := cmpf .olt main_v19 main_v20
  let main_v22 : FVec F S8x3x16384 .f32 := Host.absf main_arg2
  let main_cst_4 : FVec F S_ .f32 := constant S_ .f32 0x7F800000#32
  let main_v23 : FVec F S8x3x16384 .f32 := broadcastInDim S8x3x16384 ![] bcast_S_S8x3x16384 main_cst_4
  let main_v24 : IVec S8x3x16384 1 := cmpf .olt main_v22 main_v23
  let main_v25 : FVec F S8x64x16384 .f32 := Host.absf main_arg3
  let main_cst_5 : FVec F S_ .f32 := constant S_ .f32 0x7F800000#32
  let main_v26 : FVec F S8x64x16384 .f32 := broadcastInDim S8x64x16384 ![] bcast_S_S8x64x16384 main_cst_5
  let main_v27 : IVec S8x64x16384 1 := cmpf .olt main_v25 main_v26
  let main_v28 : FVec F S128x128 .f32 := Host.absf main_arg4
  let main_cst_6 : FVec F S_ .f32 := constant S_ .f32 0x7F800000#32
  let main_v29 : FVec F S128x128 .f32 := broadcastInDim S128x128 ![] bcast_S_S128x128 main_cst_6
  let main_v30 : IVec S128x128 1 := cmpf .olt main_v28 main_v29
  let main_v31 : FVec F S128 .f32 := Host.absf main_arg5
  let main_cst_7 : FVec F S_ .f32 := constant S_ .f32 0x7F800000#32
  let main_v32 : FVec F S128 .f32 := broadcastInDim S128 ![] bcast_S_S128 main_cst_7
  let main_v33 : IVec S128 1 := cmpf .olt main_v31 main_v32
  let main_v34 : FVec F S128x128 .f32 := Host.absf main_arg6
  let main_cst_8 : FVec F S_ .f32 := constant S_ .f32 0x7F800000#32
  let main_v35 : FVec F S128x128 .f32 := broadcastInDim S128x128 ![] bcast_S_S128x128 main_cst_8
  fn_part2 (F := F) main_arg7 main_values main_v18 main_v21 main_v24 main_v27 main_v30 main_v33 main_v34 main_v35

def fn {F : FTy → Type} [FloatOps F] (main_arg0 : FVec F S8x3x1024 .f32) (main_arg1 : FVec F S8x64x1024 .f32) (main_arg2 : FVec F S8x3x16384 .f32) (main_arg3 : FVec F S8x64x16384 .f32) (main_arg4 : FVec F S128x128 .f32) (main_arg5 : FVec F S128 .f32) (main_arg6 : FVec F S128x128 .f32) (main_arg7 : FVec F S128 .f32) : IVec S8x16384 1 × IVec S8x3x1024 1 × IVec S8x64x1024 1 × IVec S8x3x16384 1 × IVec S8x64x16384 1 × IVec S128x128 1 × IVec S128 1 × IVec S128x128 1 × IVec S128 1 :=
  let main_v0 : FVec F S8x16384x3 .f32 := (transpose S8x16384x3 [0, 2, 1] · transposes_S8x3x16384_S8x16384x3_0_2_1) main_arg2
  let main_v1 : FVec F S8x1024x3 .f32 := (transpose S8x1024x3 [0, 2, 1] · transposes_S8x3x1024_S8x1024x3_0_2_1) main_arg0
  let main_v2 : FVec F S8x16384x3 .f32 := mulf main_v0 main_v0
  let main_cst : FVec F S_ .f32 := constant S_ .f32 0x00000000#32
  let main_v3 : FVec F S8x16384 .f32 := (fun x v => Host.reduceAdd x v reducesTo_S8x16384x3_S8x16384_d2 h_S_) main_v2 main_cst
  let main_v4 : FVec F S8x16384x1 .f32 := broadcastInDim S8x16384x1 ![0, 1] bcast_S8x16384_S8x16384x1_0_1 main_v3
  let main_v5 : FVec F S8x16384x1024 .f32 := (fun l r => Host.dotGeneral dot_S8x16384x3_S8x1024x3_S8x16384x1024_2_2_1_1_0_0 none l r) main_v0 main_v1
  let main_cst_0 : FVec F S_ .f32 := constant S_ .f32 0x40000000#32
  let main_v6 : FVec F S8x16384x1024 .f32 := broadcastInDim S8x16384x1024 ![] bcast_S_S8x16384x1024 main_cst_0
  let main_v7 : FVec F S8x16384x1024 .f32 := mulf main_v6 main_v5
  let main_v8 : FVec F S8x16384x1024 .f32 := broadcastInDim S8x16384x1024 ![0, 1, 2] bcast_S8x16384x1_S8x16384x1024_0_1_2 main_v4
  let main_v9 : FVec F S8x16384x1024 .f32 := subf main_v8 main_v7
  let main_v10 : FVec F S8x1024x3 .f32 := mulf main_v1 main_v1
  let main_cst_1 : FVec F S_ .f32 := constant S_ .f32 0x00000000#32
  let main_v11 : FVec F S8x1024 .f32 := (fun x v => Host.reduceAdd x v reducesTo_S8x1024x3_S8x1024_d2 h_S_) main_v10 main_cst_1
  let main_v12 : FVec F S8x1x1024 .f32 := broadcastInDim S8x1x1024 ![0, 2] bcast_S8x1024_S8x1x1024_0_2 main_v11
  let main_v13 : FVec F S8x16384x1024 .f32 := broadcastInDim S8x16384x1024 ![0, 1, 2] bcast_S8x1x1024_S8x16384x1024_0_1_2 main_v12
  let main_v14 : FVec F S8x16384x1024 .f32 := addf main_v9 main_v13
  let main_v15 : FVec F S8x16384x1024 .f32 := Host.negf main_v14
  let main_values : FVec F S8x16384x4 .f32 := (fun x => (Host.topK S8x16384x4 2 (FloatOps.cmpfTotal .gt) x sliceFits_S8x16384x1024_S8x16384x4).1) main_v15
  let main_indices : IVec S8x16384x4 32 := (fun x => (Host.topK S8x16384x4 2 (FloatOps.cmpfTotal .gt) x sliceFits_S8x16384x1024_S8x16384x4).2) main_v15
  let main_v16 : FVec F S8x3x1024 .f32 := Host.absf main_arg0
  let main_cst_2 : FVec F S_ .f32 := constant S_ .f32 0x7F800000#32
  let main_v17 : FVec F S8x3x1024 .f32 := broadcastInDim S8x3x1024 ![] bcast_S_S8x3x1024 main_cst_2
  fn_part1 (F := F) main_arg1 main_arg2 main_arg3 main_arg4 main_arg5 main_arg6 main_arg7 main_values main_v16 main_v17
-- ==== Kernel.lean ====
abbrev S8x3x1024 : Shape := ⟨3, ![8, 3, 1024]⟩
abbrev S8x64x1024 : Shape := ⟨3, ![8, 64, 1024]⟩
abbrev S8x3x16384 : Shape := ⟨3, ![8, 3, 16384]⟩
abbrev S8x64x16384 : Shape := ⟨3, ![8, 64, 16384]⟩
abbrev S128x128 : Shape := ⟨2, ![128, 128]⟩
abbrev S128 : Shape := ⟨1, ![128]⟩
abbrev S_ : Shape := ⟨0, ![]⟩
abbrev S8x4x16384 : Shape := ⟨3, ![8, 4, 16384]⟩
abbrev S8x1x16384 : Shape := ⟨3, ![8, 1, 16384]⟩
abbrev S8x8x16384 : Shape := ⟨3, ![8, 8, 16384]⟩
abbrev S8x1024x3 : Shape := ⟨3, ![8, 1024, 3]⟩
abbrev S8x1024x5 : Shape := ⟨3, ![8, 1024, 5]⟩
abbrev S8x1024x8 : Shape := ⟨3, ![8, 1024, 8]⟩
abbrev S8x128x16384 : Shape := ⟨3, ![8, 128, 16384]⟩
abbrev S1x8x2048 : Shape := ⟨3, ![1, 8, 2048]⟩
abbrev S1x1024x8 : Shape := ⟨3, ![1, 1024, 8]⟩
abbrev S1x64x1024 : Shape := ⟨3, ![1, 64, 1024]⟩
abbrev S1x64x2048 : Shape := ⟨3, ![1, 64, 2048]⟩
abbrev S1x128x8192 : Shape := ⟨3, ![1, 128, 8192]⟩
abbrev S128x131072 : Shape := ⟨2, ![128, 131072]⟩
abbrev S128x2 : Shape := ⟨2, ![128, 2]⟩
abbrev S8x2048 : Shape := ⟨2, ![8, 2048]⟩
abbrev S1024x8 : Shape := ⟨2, ![1024, 8]⟩
abbrev S1024 : Shape := ⟨1, ![1024]⟩
abbrev S1024x1 : Shape := ⟨2, ![1024, 1]⟩
abbrev S1024x2048 : Shape := ⟨2, ![1024, 2048]⟩
abbrev S2048 : Shape := ⟨1, ![2048]⟩
abbrev S1x2048 : Shape := ⟨2, ![1, 2048]⟩
abbrev S512x2048 : Shape := ⟨2, ![512, 2048]⟩
abbrev S256x2048 : Shape := ⟨2, ![256, 2048]⟩
abbrev S128x2048 : Shape := ⟨2, ![128, 2048]⟩
abbrev S64x2048 : Shape := ⟨2, ![64, 2048]⟩
abbrev S32x2048 : Shape := ⟨2, ![32, 2048]⟩
abbrev S16x2048 : Shape := ⟨2, ![16, 2048]⟩
abbrev S4x2048 : Shape := ⟨2, ![4, 2048]⟩
abbrev S2x2048 : Shape := ⟨2, ![2, 2048]⟩
abbrev S6x2048 : Shape := ⟨2, ![6, 2048]⟩
abbrev S7x2048 : Shape := ⟨2, ![7, 2048]⟩
abbrev S64x1024 : Shape := ⟨2, ![64, 1024]⟩
abbrev S128x1 : Shape := ⟨2, ![128, 1]⟩
abbrev S128x8192 : Shape := ⟨2, ![128, 8192]⟩

abbrev nBuf : Space → Nat
  | .hbm => 22
  | .vmem => 15
  | .smem => 0
  | _ => 0

abbrev bufTy : (tb : Table) → Fin (tcTables nBuf tb) → BufTy
  | .hbm, ⟨0, _⟩ => ⟨S8x3x1024, .f32⟩
  | .hbm, ⟨1, _⟩ => ⟨S8x64x1024, .f32⟩
  | .hbm, ⟨2, _⟩ => ⟨S8x3x16384, .f32⟩
  | .hbm, ⟨3, _⟩ => ⟨S8x64x16384, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S8x4x16384, .f32⟩
  | .hbm, ⟨10, _⟩ => ⟨S_, .f32⟩
  | .hbm, ⟨11, _⟩ => ⟨S8x1x16384, .f32⟩
  | .hbm, ⟨12, _⟩ => ⟨S8x8x16384, .f32⟩
  | .hbm, ⟨13, _⟩ => ⟨S8x1024x3, .f32⟩
  | .hbm, ⟨14, _⟩ => ⟨S_, .f32⟩
  | .hbm, ⟨15, _⟩ => ⟨S8x1024x3, .f32⟩
  | .hbm, ⟨16, _⟩ => ⟨S8x1024x3, .f32⟩
  | .hbm, ⟨17, _⟩ => ⟨S_, .f32⟩
  | .hbm, ⟨18, _⟩ => ⟨S8x1024x5, .f32⟩
  | .hbm, ⟨19, _⟩ => ⟨S8x1024x8, .f32⟩
  | .hbm, ⟨20, _⟩ => ⟨S8x64x1024, .bf16⟩
  | .hbm, ⟨21, _⟩ => ⟨S8x128x16384, .f32⟩
  | .local _ .vmem, ⟨0, _⟩ => ⟨S1x8x2048, .f32⟩
  | .local _ .vmem, ⟨1, _⟩ => ⟨S1x8x2048, .f32⟩
  | .local _ .vmem, ⟨2, _⟩ => ⟨S1x1024x8, .f32⟩
  | .local _ .vmem, ⟨3, _⟩ => ⟨S1x1024x8, .f32⟩
  | .local _ .vmem, ⟨4, _⟩ => ⟨S1x64x1024, .bf16⟩
  | .local _ .vmem, ⟨5, _⟩ => ⟨S1x64x1024, .bf16⟩
  | .local _ .vmem, ⟨6, _⟩ => ⟨S1x64x2048, .f32⟩
  | .local _ .vmem, ⟨7, _⟩ => ⟨S1x64x2048, .f32⟩
  | .local _ .vmem, ⟨8, _⟩ => ⟨S128x128, .f32⟩
  | .local _ .vmem, ⟨9, _⟩ => ⟨S128x128, .f32⟩
  | .local _ .vmem, ⟨10, _⟩ => ⟨S1x128x8192, .f32⟩
  | .local _ .vmem, ⟨11, _⟩ => ⟨S1x128x8192, .f32⟩
  | .local _ .vmem, ⟨12, _⟩ => ⟨S128x131072, .bf16⟩
  | .local _ .vmem, ⟨13, _⟩ => ⟨S128x2, .f32⟩
  | .local _ .vmem, ⟨14, _⟩ => ⟨S128x2, .f32⟩
  | _, _ => ⟨S8x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![96], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_35 : Index := 0#32
  let arg0 : BitVec 32 := BitVec.ofNat 32 (i 0).val
  let c2048_i32 : BitVec 32 := 2048#32
  let v203 : BitVec 32 := Scalar.muli arg0 c2048_i32
  let v204 : Index := Scalar.indexCast v203
  ![0, v204.toNat]
def k0_cond3 (i : grid0.Coords) : BitVec 1 :=
  let arg0 : BitVec 32 := BitVec.ofNat 32 (i 0).val
  let c64_i32_2 : BitVec 32 := 64#32
  let v6 : BitVec 1 := Scalar.cmpi .sge arg0 c64_i32_2
  let c80_i32 : BitVec 32 := 80#32
  let v7 : BitVec 1 := Scalar.cmpi .slt arg0 c80_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 2 → Nat :=
  let c0 : Index := 0#32
  let arg0 : BitVec 32 := BitVec.ofNat 32 (i 0).val
  let c64_i32_6 : BitVec 32 := 64#32
  let v14 : BitVec 32 := Scalar.subi arg0 c64_i32_6
  let c8192_i32 : BitVec 32 := 8192#32
  let v15 : BitVec 32 := Scalar.muli v14 c8192_i32
  let v16 : Index := Scalar.indexCast v15
  ![0, v16.toNat]
def k0_cond4 (i : grid0.Coords) : BitVec 1 :=
  let arg0 : BitVec 32 := BitVec.ofNat 32 (i 0).val
  let c80_i32_4 : BitVec 32 := 80#32
  let v11 : BitVec 1 := Scalar.cmpi .sge arg0 c80_i32_4
  let v12 : BitVec 32 := Scalar.extui v11
  let c0_i32_5 : BitVec 32 := 0#32
  let v13 : BitVec 1 := Scalar.cmpi .ne v12 c0_i32_5
  v13

def k0_off3 (i : grid0.Coords) : Fin 2 → Nat :=
  let c0 : Index := 0#32
  let arg0 : BitVec 32 := BitVec.ofNat 32 (i 0).val
  let c64_i32_6 : BitVec 32 := 64#32
  let v14 : BitVec 32 := Scalar.subi arg0 c64_i32_6
  let c16_i32 : BitVec 32 := 16#32
  let v15 : BitVec 32 := Scalar.subi v14 c16_i32
  let c8192_i32 : BitVec 32 := 8192#32
  let v16 : BitVec 32 := Scalar.muli v15 c8192_i32
  let v17 : Index := Scalar.indexCast v16
  ![0, v17.toNat]
def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c80_i32 : BitVec 32 := 80#32
  let v0 : BitVec 32 := Scalar.subi arg0 c80_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c80_i32_5 : BitVec 32 := 80#32
  let v19 : BitVec 32 := Scalar.subi arg0 c80_i32_5
  let c0_i32_6 : BitVec 32 := 0#32
  let v20 : BitVec 32 := Scalar.maxsi v19 c0_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x3x1024 : Shape := ⟨3, ![8, 3, 1024]⟩
abbrev S8x64x1024 : Shape := ⟨3, ![8, 64, 1024]⟩
abbrev S8x3x16384 : Shape := ⟨3, ![8, 3, 16384]⟩
abbrev S8x64x16384 : Shape := ⟨3, ![8, 64, 16384]⟩
abbrev S128x128 : Shape := ⟨2, ![128, 128]⟩
abbrev S128 : Shape := ⟨1, ![128]⟩
abbrev S8x16384x3 : Shape := ⟨3, ![8, 16384, 3]⟩
abbrev S8x1024x3 : Shape := ⟨3, ![8, 1024, 3]⟩
abbrev S_ : Shape := ⟨0, ![]⟩
abbrev S8x16384 : Shape := ⟨2, ![8, 16384]⟩
abbrev S8x16384x1 : Shape := ⟨3, ![8, 16384, 1]⟩
abbrev S8x16384x1024 : Shape := ⟨3, ![8, 16384, 1024]⟩
abbrev S8x1024 : Shape := ⟨2, ![8, 1024]⟩
abbrev S8x1x1024 : Shape := ⟨3, ![8, 1, 1024]⟩
abbrev S8x1024x64 : Shape := ⟨3, ![8, 1024, 64]⟩
abbrev S8x16384x3x1 : Shape := ⟨4, ![8, 16384, 3, 1]⟩
abbrev S8x16384x3x64 : Shape := ⟨4, ![8, 16384, 3, 64]⟩
abbrev S8x16384x64 : Shape := ⟨3, ![8, 16384, 64]⟩
abbrev S8x128x16384 : Shape := ⟨3, ![8, 128, 16384]⟩
abbrev S8x16384x128 : Shape := ⟨3, ![8, 16384, 128]⟩
abbrev S1x128x1 : Shape := ⟨3, ![1, 128, 1]⟩

abbrev nBuf : Space → Nat
  | .hbm => 121
  | .vmem => 0
  | .smem => 0
  | _ => 0

abbrev bufTy : (tb : Table) → Fin (tcTables nBuf tb) → BufTy
  | .hbm, ⟨0, _⟩ => ⟨S8x3x1024, .f32⟩
  | .hbm, ⟨1, _⟩ => ⟨S8x64x1024, .f32⟩
  | .hbm, ⟨2, _⟩ => ⟨S8x3x16384, .f32⟩
  | .hbm, ⟨3, _⟩ => ⟨S8x64x16384, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S8x16384x3, .f32⟩
  | .hbm, ⟨9, _⟩ => ⟨S8x1024x3, .f32⟩
  | .hbm, ⟨10, _⟩ => ⟨S8x16384x3, .f32⟩
  | .hbm, ⟨11, _⟩ => ⟨S_, .f32⟩
  | .hbm, ⟨12, _⟩ => ⟨S8x16384, .f32⟩
  | .hbm, ⟨13, _⟩ => ⟨S8x16384x1, .f32⟩
  | .hbm, ⟨14, _⟩ => ⟨S8x16384x1024, .f32⟩
  | .hbm, ⟨15, _⟩ => ⟨S_, .f32⟩
  | .hbm, ⟨16, _⟩ => ⟨S8x16384x1024, .f32⟩
  | .hbm, ⟨17, _⟩ => ⟨S8x16384x1024, .f32⟩
  | .hbm, ⟨18, _⟩ => ⟨S8x16384x1024, .f32⟩
  | .hbm, ⟨19, _⟩ => ⟨S8x16384x1024, .f32⟩
  | .hbm, ⟨20, _⟩ => ⟨S8x1024x3, .f32⟩
  | .hbm, ⟨21, _⟩ => ⟨S_, .f32⟩
  | .hbm, ⟨22, _⟩ => ⟨S8x1024, .f32⟩
  | .hbm, ⟨23, _⟩ => ⟨S8x1x1024, .f32⟩
  | .hbm, ⟨24, _⟩ => ⟨S8x16384x1024, .f32⟩
  | .hbm, ⟨25, _⟩ => ⟨S8x16384x1024, .f32⟩
  | .hbm, ⟨26, _⟩ => ⟨S8x16384x1024, .f32⟩
  | .hbm, ⟨27, _⟩ => ⟨S8x16384x3, .f32⟩
  | .hbm, ⟨28, _⟩ => ⟨S8x16384x3, .i32⟩
  | .hbm, ⟨29, _⟩ => ⟨S8x16384x3, .f32⟩
  | .hbm, ⟨30, _⟩ => ⟨S_, .f32⟩
  | .hbm, ⟨31, _⟩ => ⟨S_, .f32⟩
  | .hbm, ⟨32, _⟩ => ⟨S8x16384x3, .f32⟩
  | .hbm, ⟨33, _⟩ => ⟨S8x16384x3, .f32⟩
  | .hbm, ⟨34, _⟩ => ⟨S_, .f32⟩
  | .hbm, ⟨35, _⟩ => ⟨S8x16384x3, .f32⟩
  | .hbm, ⟨36, _⟩ => ⟨S8x16384x3, .f32⟩
  | .hbm, ⟨37, _⟩ => ⟨S_, .f32⟩
  | .hbm, ⟨38, _⟩ => ⟨S8x16384, .f32⟩
  | .hbm, ⟨39, _⟩ => ⟨S8x16384x1, .f32⟩
  | .hbm, ⟨40, _⟩ => ⟨S8x16384x3, .f32⟩
  | .hbm, ⟨41, _⟩ => ⟨S8x16384x3, .f32⟩
  | .hbm, ⟨42, _⟩ => ⟨S8x1024x64, .f32⟩
  | .hbm, ⟨43, _⟩ => ⟨S_, .i32⟩
  | .hbm, ⟨44, _⟩ => ⟨S8x16384x3, .i32⟩
  | .hbm, ⟨45, _⟩ => ⟨S8x16384x3, .i1⟩
  | .hbm, ⟨46, _⟩ => ⟨S_, .i32⟩
  | .hbm, ⟨47, _⟩ => ⟨S8x16384x3, .i32⟩
  | .hbm, ⟨48, _⟩ => ⟨S8x16384x3, .i32⟩
  | .hbm, ⟨49, _⟩ => ⟨S8x16384x3, .i32⟩
  | .hbm, ⟨50, _⟩ => ⟨S8x16384x3x1, .i32⟩
  | .hbm, ⟨51, _⟩ => ⟨S8x16384x3x64, .f32⟩
  | .hbm, ⟨52, _⟩ => ⟨S8x16384x3x1, .f32⟩
  | .hbm, ⟨53, _⟩ => ⟨S8x16384x3x64, .f32⟩
  | .hbm, ⟨54, _⟩ => ⟨S8x16384x3x64, .f32⟩
  | .hbm, ⟨55, _⟩ => ⟨S_, .f32⟩
  | .hbm, ⟨56, _⟩ => ⟨S8x16384x64, .f32⟩
  | .hbm, ⟨57, _⟩ => ⟨S8x64x16384, .f32⟩
  | .hbm, ⟨58, _⟩ => ⟨S8x128x16384, .f32⟩
  | .hbm, ⟨59, _⟩ => ⟨S8x16384x128, .f32⟩
  | .hbm, ⟨60, _⟩ => ⟨S8x128x16384, .f32⟩
  | .hbm, ⟨61, _⟩ => ⟨S1x128x1, .f32⟩
  | .hbm, ⟨62, _⟩ => ⟨S8x128x16384, .f32⟩
  | .hbm, ⟨63, _⟩ => ⟨S8x128x16384, .f32⟩
  | .hbm, ⟨64, _⟩ => ⟨S_, .f32⟩
  | .hbm, ⟨65, _⟩ => ⟨S128, .f32⟩
  | .hbm, ⟨66, _⟩ => ⟨S1x128x1, .f32⟩
  | .hbm, ⟨67, _⟩ => ⟨S_, .f32⟩
  | .hbm, ⟨68, _⟩ => ⟨S1x128x1, .f32⟩
  | .hbm, ⟨69, _⟩ => ⟨S1x128x1, .f32⟩
  | .hbm, ⟨70, _⟩ => ⟨S8x128x16384, .f32⟩
  | .hbm, ⟨71, _⟩ => ⟨S8x128x16384, .f32⟩
  | .hbm, ⟨72, _⟩ => ⟨S8x128x16384, .f32⟩
  | .hbm, ⟨73, _⟩ => ⟨S_, .f32⟩
  | .hbm, ⟨74, _⟩ => ⟨S128, .f32⟩
  | .hbm, ⟨75, _⟩ => ⟨S1x128x1, .f32⟩
  | .hbm, ⟨76, _⟩ => ⟨S_, .f32⟩
  | .hbm, ⟨77, _⟩ => ⟨S1x128x1, .f32⟩
  | .hbm, ⟨78, _⟩ => ⟨S1x128x1, .f32⟩
  | .hbm, ⟨79, _⟩ => ⟨S8x128x16384, .f32⟩
  | .hbm, ⟨80, _⟩ => ⟨S8x128x16384, .f32⟩
  | .hbm, ⟨81, _⟩ => ⟨S_, .f32⟩
  | .hbm, ⟨82, _⟩ => ⟨S1x128x1, .f32⟩
  | .hbm, ⟨83, _⟩ => ⟨S1x128x1, .f32⟩
  | .hbm, ⟨84, _⟩ => ⟨S1x128x1, .f32⟩
  | .hbm, ⟨85, _⟩ => ⟨S8x128x16384, .f32⟩
  | .hbm, ⟨86, _⟩ => ⟨S8x128x16384, .f32⟩
  | .hbm, ⟨87, _⟩ => ⟨S_, .f32⟩
  | .hbm, ⟨88, _⟩ => ⟨S8x128x16384, .f32⟩
  | .hbm, ⟨89, _⟩ => ⟨S8x128x16384, .f32⟩
  | .hbm, ⟨90, _⟩ => ⟨S8x16384x128, .f32⟩
  | .hbm, ⟨91, _⟩ => ⟨S8x128x16384, .f32⟩
  | .hbm, ⟨92, _⟩ => ⟨S1x128x1, .f32⟩
  | .hbm, ⟨93, _⟩ => ⟨S8x128x16384, .f32⟩
  | .hbm, ⟨94, _⟩ => ⟨S8x128x16384, .f32⟩
  | .hbm, ⟨95, _⟩ => ⟨S_, .f32⟩
  | .hbm, ⟨96, _⟩ => ⟨S128, .f32⟩
  | .hbm, ⟨97, _⟩ => ⟨S1x128x1, .f32⟩
  | .hbm, ⟨98, _⟩ => ⟨S_, .f32⟩
  | .hbm, ⟨99, _⟩ => ⟨S1x128x1, .f32⟩
  | .hbm, ⟨100, _⟩ => ⟨S1x128x1, .f32⟩
  | .hbm, ⟨101, _⟩ => ⟨S8x128x16384, .f32⟩
  | .hbm, ⟨102, _⟩ => ⟨S8x128x16384, .f32⟩
  | .hbm, ⟨103, _⟩ => ⟨S8x128x16384, .f32⟩
  | .hbm, ⟨104, _⟩ => ⟨S_, .f32⟩
  | .hbm, ⟨105, _⟩ => ⟨S128, .f32⟩
  | .hbm, ⟨106, _⟩ => ⟨S1x128x1, .f32⟩
  | .hbm, ⟨107, _⟩ => ⟨S_, .f32⟩
  | .hbm, ⟨108, _⟩ => ⟨S1x128x1, .f32⟩
  | .hbm, ⟨109, _⟩ => ⟨S1x128x1, .f32⟩
  | .hbm, ⟨110, _⟩ => ⟨S8x128x16384, .f32⟩
  | .hbm, ⟨111, _⟩ => ⟨S8x128x16384, .f32⟩
  | .hbm, ⟨112, _⟩ => ⟨S_, .f32⟩
  | .hbm, ⟨113, _⟩ => ⟨S1x128x1, .f32⟩
  | .hbm, ⟨114, _⟩ => ⟨S1x128x1, .f32⟩
  | .hbm, ⟨115, _⟩ => ⟨S1x128x1, .f32⟩
  | .hbm, ⟨116, _⟩ => ⟨S8x128x16384, .f32⟩
  | .hbm, ⟨117, _⟩ => ⟨S8x128x16384, .f32⟩
  | .hbm, ⟨118, _⟩ => ⟨S_, .f32⟩
  | .hbm, ⟨119, _⟩ => ⟨S8x128x16384, .f32⟩
  | .hbm, ⟨120, _⟩ => ⟨S8x128x16384, .f32⟩
  | _, _ => ⟨S8x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_values : Ref sig .tc := ⟨.hbm, 27, rfl⟩
abbrev main_indices : Ref sig .tc := ⟨.hbm, 28, rfl⟩
abbrev main_v16 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call1_cst : Ref sig .tc := ⟨.hbm, 87, rfl⟩
abbrev main_call1_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_16 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call2_cst : Ref sig .tc := ⟨.hbm, 118, rfl⟩
abbrev main_call2_v0 : Ref sig .tc := ⟨.hbm, 119, rfl⟩
abbrev main_v85 : Ref sig .tc := ⟨.hbm, 120, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Frame
public import Idealize.ShloMosaic.Lib.WritesUnit
public import Idealize.ShloMosaic.Lib.Pipeline.Value
public import Idealize.ShloMosaic.Lib.Pipeline.FrameBody

/-! What one run of the kernel's body leaves behind, for any meaning of the floating-point operations: one theorem per
    phase, each saying that the body ends with its inputs as they were and its scratch (and, in the last phase, its
    output block) at explicit functions of what it found. -/

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The condition of the body's first branch: the first grid point. -/
abbrev cond1 (i : grid0.Coords) : Prop :=
  (Scalar.cmpi .ne (Scalar.extui (Scalar.cmpi .eq (BitVec.ofNat 32 (i 0).val) 0#32)) 0#32) = 1#1

/-- A vector `Y` with the box of extents `size` at offsets `off` overwritten by `w`. -/
def putAt {α : Type} {s : Shape} (off size : Fin s.rank → ℕ) (w : ((a : Fin s.rank) → Fin (size a)) → α) (Y : s.Idx → α) : s.Idx → α :=
  fun y => if h : ∀ a, off a ≤ (y a).val ∧ (y a).val < off a + size a then
    w (Rect.unitLocal (s := s) (off := off) (size := size) y h) else Y y

/-- Reading back one store of a box over known contents. -/
theorem read_put {sg : RefSig} {κ : Kind} {sp : Space} {s : Shape} {e : EltTy} {Val : EltTy → Type} (M : Memref sg κ sp s e)
    (h : M.IsWhole) (Y : s.Idx → Val e) {off size : Fin s.rank → ℕ} (inb : ∀ a, off a + size a ≤ s.size a)
    (w : (Rect.unit off size inb).shape.Idx → Val e) :
    M.view.read Val (M.view.writes Val (h.unread Y) [(⟨Rect.unit off size inb, w⟩ : View.Piece Val s e)]) = putAt off size w Y := by
  funext y
  rw [View.read_writes_cons_unit M.view _ inb w [] y rfl]
  unfold putAt
  split
  · rfl
  · exact congrFun (h.read_unread Y) y

/-- Reading back a store of the whole buffer, whatever was there before. -/
theorem read_whole {sg : RefSig} {κ : Kind} {sp : Space} {s : Shape} {e : EltTy} {Val : EltTy → Type} [∀ e, Nonempty (Val e)] (v : View sg κ sp s e)
    (f : v.ty.Contents Val) {off : Fin s.rank → ℕ} (h : off = fun _ => 0) (inb : ∀ a, off a + s.size a ≤ s.size a)
    (w : s.Idx → Val e) (L : List (View.Piece Val s e)) :
    v.read Val (v.writes Val f ((⟨Rect.unit off s.size inb, w⟩ : View.Piece Val s e) :: L)) = w := by
  subst h
  funext y
  rw [View.read_writes_cons_unit_of_mem v f inb w L y y rfl (fun a => by simp)]

/-- The literal pair of zero offsets is zero on every axis. -/
theorem zero2 : (![0, 0] : Fin 2 → ℕ) = fun _ => 0 := by funext a; fin_cases a <;> rfl
/-- The literal triple of zero offsets is zero on every axis. -/
theorem zero3 : (![0, 0, 0] : Fin 3 → ℕ) = fun _ => 0 := by funext a; fin_cases a <;> rfl

/-- A load of a whole vector of rank two, of rank three, is the vector. -/
theorem ld2 {Val : EltTy → Type} {e : EltTy} (n k : ℕ) (X : (⟨2, ![n, k]⟩ : Shape).Idx → Val e) (inb) :
    View.ld X (Rect.unit (s := ⟨2, ![n, k]⟩) ![0, 0] ![n, k] inb) = X := View.ld_unit_zero (S := ⟨2, ![n, k]⟩) zero2 inb X
/-- Reading back a store of the whole of a matrix gives what was stored. -/
theorem rc2 {sg : RefSig} {κ : Kind} {sp : Space} {Val : EltTy → Type} [∀ e, Nonempty (Val e)] {e : EltTy} (n k : ℕ) (v : View sg κ sp ⟨2, ![n, k]⟩ e)
    (X : (⟨2, ![n, k]⟩ : Shape).Idx → Val e) (inb inb') :
    v.readCov [(⟨Rect.unit (s := ⟨2, ![n, k]⟩) ![0, 0] ![n, k] inb, X⟩ : View.Piece Val ⟨2, ![n, k]⟩ e)]
      (Rect.unit (s := ⟨2, ![n, k]⟩) ![0, 0] ![n, k] inb').toLoadRect = X :=
  View.readCov_unit_zero (S := ⟨2, ![n, k]⟩) v zero2 inb X
/-- Loading the whole of a three-axis array gives the array. -/
theorem ld3 {Val : EltTy → Type} {e : EltTy} (n k l : ℕ) (X : (⟨3, ![n, k, l]⟩ : Shape).Idx → Val e) (inb) :
    View.ld X (Rect.unit (s := ⟨3, ![n, k, l]⟩) ![0, 0, 0] ![n, k, l] inb) = X := View.ld_unit_zero (S := ⟨3, ![n, k, l]⟩) zero3 inb X

/-! ## The first phase's payloads, as functions of the five blocks it reads -/

section Pay
variable (x1 : Vec F S1x8x2048 .f32) (x2 : Vec F S1x1024x8 .f32) (x3 : Vec F S1x64x1024 .bf16) (x4 : Vec F S1x64x2048 .f32) (x5 : Vec F S128x128 .f32)

/-- Eight rows holding the candidates for the smallest, second and third smallest entry after six halvings: the third's first part. -/
def c110 : FVec F S8x2048 .f32 := k0_pay44 (k0_pay20 x1 x2) (k0_pay21 x1 x2) (k0_pay22 x1 x2) (k0_pay23 x1 x2) (k0_pay24 x1 x2) (k0_pay25 x1 x2)
/-- The third smallest entries of eight rows, rotated by four rows. -/
def c119 : FVec F S8x2048 .f32 := k0_pay46 (k0_pay20 x1 x2) (k0_pay21 x1 x2) (k0_pay22 x1 x2) (k0_pay23 x1 x2) (k0_pay24 x1 x2) (k0_pay25 x1 x2)
/-- The smallest entries of eight rows after the first rotation. -/
def c120 : FVec F S8x2048 .f32 := k0_pay47 (k0_pay22 x1 x2) (k0_pay25 x1 x2)
/-- One operand of the second smallest entries after the first rotation. -/
def c121 : FVec F S8x2048 .f32 := k0_pay48 (k0_pay22 x1 x2) (k0_pay25 x1 x2)
/-- The other operand of the second smallest entries after the first rotation. -/
def c122 : FVec F S8x2048 .f32 := k0_pay49 (k0_pay20 x1 x2) (k0_pay22 x1 x2) (k0_pay23 x1 x2) (k0_pay25 x1 x2)
/-- The third smallest entry of each column. -/
def t161 : FVec F S1x2048 .f32 := k0_pay57 (c110 x1 x2) (c119 x1 x2) (c120 x1 x2) (c121 x1 x2) (c122 x1 x2)
/-- The reciprocals of the three smallest distances of each column. -/
def r166 : FVec F S1x2048 .f32 := k0_pay58 (k0_pay8 x1) (c120 x1 x2)
/-- The inverse of the second smallest squared distance. -/
def r171 : FVec F S1x2048 .f32 := k0_pay59 (k0_pay8 x1) (c120 x1 x2) (c121 x1 x2) (c122 x1 x2)
/-- The inverse of the third smallest squared distance. -/
def r176 : FVec F S1x2048 .f32 := k0_pay60 (k0_pay8 x1) (c110 x1 x2) (c119 x1 x2) (c120 x1 x2) (c121 x1 x2) (c122 x1 x2)
/-- The tile of the first layer's product the first phase computes. -/
def y1f : FVec F S128x2048 .f32 := k0_pay61 (k0_pay7 x1 x2) (k0_pay8 x1) (t161 x1 x2) (r166 x1 x2) (r171 x1 x2) (r176 x1 x2) x3 x4 x5
/-- The same tile as stored. -/
def y1b : FVec F S128x2048 .bf16 := k0_pay62 (k0_pay7 x1 x2) (k0_pay8 x1) (t161 x1 x2) (r166 x1 x2) (r171 x1 x2) (r176 x1 x2) x3 x4 x5
/-- The first layer's running sums after the tile, from the sums before it. -/
def s1n (S : Vec F S128x2 .f32) : FVec F S128x2 .f32 :=
  k0_pay3 (k0_pay63 (k0_pay7 x1 x2) (k0_pay8 x1) (t161 x1 x2) (r166 x1 x2) (r171 x1 x2) (r176 x1 x2) x3 x4 x5 S)
end Pay

/-- The first and the second column of a pair of running sums. -/
def col0 (S : Vec F S128x2 .f32) : Vec F S128x1 .f32 := View.ld S (Rect.unit (s := S128x2) ![0, 0] S128x1.size inb_S128x2_S128x1_0_0)
/-- The second column of a pair of running sums. -/
def col1 (S : Vec F S128x2 .f32) : Vec F S128x1 .f32 := View.ld S (Rect.unit (s := S128x2) ![0, 1] S128x1.size inb_S128x2_S128x1_0_1)
/-- The tile of stored columns a point of the second phase, of the third phase, reads. -/
def tile2 (i : grid0.Coords) (h : k0_cond3 i = 1#1) (Y : Vec F S128x131072 .bf16) : Vec F S128x8192 .bf16 :=
  View.ld Y (Rect.unit (s := S128x131072) (k0_off2 i) S128x8192.size (k0_off2_inb i h))
/-- The tile of stored columns a point of the third phase reads. -/
def tile3 (i : grid0.Coords) (h : k0_cond4 i = 1#1) (Y : Vec F S128x131072 .bf16) : Vec F S128x8192 .bf16 :=
  View.ld Y (Rect.unit (s := S128x131072) (k0_off3 i) S128x8192.size (k0_off3_inb i h))

set_option maxHeartbeats 4000000 in
/-- The first point: both running sums are cleared, then the tile is computed as at every point of the first phase. -/
theorem run_first (c : Dev nD) (i : grid0.Coords)
    (arg1 : Memref sig .tc .vmem S1x8x2048 .f32) (harg1 : arg1.IsWhole)
    (arg2 : Memref sig .tc .vmem S1x1024x8 .f32) (harg2 : arg2.IsWhole)
    (arg3 : Memref sig .tc .vmem S1x64x1024 .bf16) (harg3 : arg3.IsWhole)
    (arg4 : Memref sig .tc .vmem S1x64x2048 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S1x128x8192 .f32) (harg7 : arg7.IsWhole)
    (arg8 : Memref sig .tc .vmem S128x131072 .bf16) (harg8 : arg8.IsWhole)
    (arg9 : Memref sig .tc .vmem S128x2 .f32) (harg9 : arg9.IsWhole)
    (arg10 : Memref sig .tc .vmem S128x2 .f32) (harg10 : arg10.IsWhole)
    (hc1 : cond1 i) (hc2 : k0_cond2 i = 1#1) (hc3 : ¬k0_cond3 i = 1#1) (hc4 : ¬k0_cond4 i = 1#1)
    (x1 : Vec F S1x8x2048 .f32) (x2 : Vec F S1x1024x8 .f32) (x3 : Vec F S1x64x1024 .bf16) (x4 : Vec F S1x64x2048 .f32) (x5 : Vec F S128x128 .f32) (Y : Vec F S128x131072 .bf16)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare Y ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare (putAt (k0_off1 i) S128x2048.size (y1b x1 x2 x3 x4 x5) Y) ∗ owns (c : Thread nD τ) arg9 fullShare (s1n x1 x2 x3 x4 x5 k0_pay1) ∗ owns (c : Thread nD τ) arg10 fullShare k0_pay2) -∗ K ⟨⟩))
      ⊢ wp frame (wpE (defs₀ (F := F)) Variants.none c none) E (cc0_mega i arg1 harg1 arg2 harg2 arg3 harg3 arg4 harg4 arg5 harg5 arg6 harg6 arg7 harg7 arg8 harg8 arg9 harg9 arg10 harg10) K := by
  simp only [cc0_mega_eq_skeleton]
  unfold cc0_mega_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f1, %h1, H1⟩, ⟨%f2, %h2, H2⟩, ⟨%f3, %h3, H3⟩, ⟨%f4, %h4, H4⟩, ⟨%f5, %h5, H5⟩, ⟨%f8, %h8, H8⟩, ⟨%d9, %f9, -, H9⟩, ⟨%d10, %f10, -, H10⟩, Hk⟩
  obtain rfl := harg1.eq_unread h1
  obtain rfl := harg2.eq_unread h2
  obtain rfl := harg3.eq_unread h3
  obtain rfl := harg4.eq_unread h4
  obtain rfl := harg5.eq_unread h5
  obtain rfl := harg8.eq_unread h8
  sl_exec (disch := first | sl_exact hc1 | sl_exact hc2 | sl_exact hc3 | sl_exact hc4)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H8]
  · iexists _; isplitr; swap; · iexact H8
    ipureintro
    refine (read_put arg8 harg8 Y _ _).trans ?_; sl_unfold_words; dsimp only; simp only [View.readAt_eq_ld, Memref.IsWhole.read_unread, ld2, ld3, rc2]; rfl
  isplitl [H9]
  · iexists _; isplitr; swap; · iexact H9
    ipureintro
    refine (read_whole _ _ zero2 _ _ _).trans ?_; sl_unfold_words; dsimp only; simp only [View.readAt_eq_ld, Memref.IsWhole.read_unread, ld2, ld3, rc2]; rfl
  iexists _; isplitr; swap; · iexact H10
  ipureintro
  exact read_whole _ _ zero2 _ _ _

set_option maxHeartbeats 4000000 in
/-- A later point of the first phase: its tile is stored and the first running sums grow by the tile. -/
theorem run_one (c : Dev nD) (i : grid0.Coords)
    (arg1 : Memref sig .tc .vmem S1x8x2048 .f32) (harg1 : arg1.IsWhole)
    (arg2 : Memref sig .tc .vmem S1x1024x8 .f32) (harg2 : arg2.IsWhole)
    (arg3 : Memref sig .tc .vmem S1x64x1024 .bf16) (harg3 : arg3.IsWhole)
    (arg4 : Memref sig .tc .vmem S1x64x2048 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S1x128x8192 .f32) (harg7 : arg7.IsWhole)
    (arg8 : Memref sig .tc .vmem S128x131072 .bf16) (harg8 : arg8.IsWhole)
    (arg9 : Memref sig .tc .vmem S128x2 .f32) (harg9 : arg9.IsWhole)
    (arg10 : Memref sig .tc .vmem S128x2 .f32) (harg10 : arg10.IsWhole)
    (hc1 : ¬cond1 i) (hc2 : k0_cond2 i = 1#1) (hc3 : ¬k0_cond3 i = 1#1) (hc4 : ¬k0_cond4 i = 1#1)
    (x1 : Vec F S1x8x2048 .f32) (x2 : Vec F S1x1024x8 .f32) (x3 : Vec F S1x64x1024 .bf16) (x4 : Vec F S1x64x2048 .f32) (x5 : Vec F S128x128 .f32) (Y : Vec F S128x131072 .bf16) (S : Vec F S128x2 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare Y ∗ owns (c : Thread nD τ) arg9 fullShare S
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare (putAt (k0_off1 i) S128x2048.size (y1b x1 x2 x3 x4 x5) Y) ∗ owns (c : Thread nD τ) arg9 fullShare (s1n x1 x2 x3 x4 x5 S)) -∗ K ⟨⟩))
      ⊢ wp frame (wpE (defs₀ (F := F)) Variants.none c none) E (cc0_mega i arg1 harg1 arg2 harg2 arg3 harg3 arg4 harg4 arg5 harg5 arg6 harg6 arg7 harg7 arg8 harg8 arg9 harg9 arg10 harg10) K := by
  simp only [cc0_mega_eq_skeleton]
  unfold cc0_mega_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f1, %h1, H1⟩, ⟨%f2, %h2, H2⟩, ⟨%f3, %h3, H3⟩, ⟨%f4, %h4, H4⟩, ⟨%f5, %h5, H5⟩, ⟨%f8, %h8, H8⟩, ⟨%f9, %h9, H9⟩, Hk⟩
  obtain rfl := harg1.eq_unread h1
  obtain rfl := harg2.eq_unread h2
  obtain rfl := harg3.eq_unread h3
  obtain rfl := harg4.eq_unread h4
  obtain rfl := harg5.eq_unread h5
  obtain rfl := harg8.eq_unread h8
  obtain rfl := harg9.eq_unread h9
  sl_exec (disch := first | sl_exact hc1 | sl_exact hc2 | sl_exact hc3 | sl_exact hc4)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H8]
  · iexists _; isplitr; swap; · iexact H8
    ipureintro
    refine (read_put arg8 harg8 Y _ _).trans ?_; sl_unfold_words; dsimp only; simp only [View.readAt_eq_ld, Memref.IsWhole.read_unread, ld2, ld3, rc2]; rfl
  iexists _; isplitr; swap; · iexact H9
  ipureintro
  refine (read_whole _ _ zero2 _ _ _).trans ?_; sl_unfold_words; dsimp only; simp only [View.readAt_eq_ld, Memref.IsWhole.read_unread, ld2, ld3, rc2]; rfl

set_option maxHeartbeats 4000000 in
/-- A point of the second phase: its tile is normalised, multiplied and stored over itself, and the second running sums grow by it. -/
theorem run_two (c : Dev nD) (i : grid0.Coords)
    (arg1 : Memref sig .tc .vmem S1x8x2048 .f32) (harg1 : arg1.IsWhole)
    (arg2 : Memref sig .tc .vmem S1x1024x8 .f32) (harg2 : arg2.IsWhole)
    (arg3 : Memref sig .tc .vmem S1x64x1024 .bf16) (harg3 : arg3.IsWhole)
    (arg4 : Memref sig .tc .vmem S1x64x2048 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S1x128x8192 .f32) (harg7 : arg7.IsWhole)
    (arg8 : Memref sig .tc .vmem S128x131072 .bf16) (harg8 : arg8.IsWhole)
    (arg9 : Memref sig .tc .vmem S128x2 .f32) (harg9 : arg9.IsWhole)
    (arg10 : Memref sig .tc .vmem S128x2 .f32) (harg10 : arg10.IsWhole)
    (hc1 : ¬cond1 i) (hc2 : ¬k0_cond2 i = 1#1) (hc3 : k0_cond3 i = 1#1) (hc4 : ¬k0_cond4 i = 1#1)
    (x6 : Vec F S128x128 .f32) (Y : Vec F S128x131072 .bf16) (S T : Vec F S128x2 .f32)
    (E : Set ℕ) (K : PUnit → sProp 𝕄) :
    iprop(owns (c : Thread nD τ) arg6 fullShare x6 ∗ owns (c : Thread nD τ) arg8 fullShare Y ∗ owns (c : Thread nD τ) arg9 fullShare S ∗ owns (c : Thread nD τ) arg10 fullShare T
        ∗ (iprop(owns (c : Thread nD τ) arg6 fullShare x6 ∗ owns (c : Thread nD τ) arg8 fullShare (putAt (k0_off2 i) S128x8192.size (k0_pay65 (tile2 i hc3 Y) (col0 S) (col1 S) x6) Y) ∗ owns (c : Thread nD τ) arg9 fullShare S ∗ owns (c : Thread nD τ) arg10 fullShare (k0_pay4 (k0_pay66 (tile2 i hc3 Y) (col0 S) (col1 S) x6 T))) -∗ K ⟨⟩))
      ⊢ wp frame (wpE (defs₀ (F := F)) Variants.none c none) E (cc0_mega i arg1 harg1 arg2 harg2 arg3 harg3 arg4 harg4 arg5 harg5 arg6 harg6 arg7 harg7 arg8 harg8 arg9 harg9 arg10 harg10) K := by
  simp only [cc0_mega_eq_skeleton]
  unfold cc0_mega_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f6, %h6, H6⟩, ⟨%f8, %h8, H8⟩, ⟨%f9, %h9, H9⟩, ⟨%f10, %h10, H10⟩, Hk⟩
  obtain rfl := harg6.eq_unread h6
  obtain rfl := harg8.eq_unread h8
  obtain rfl := harg9.eq_unread h9
  obtain rfl := harg10.eq_unread h10
  sl_exec (disch := first | sl_exact hc1 | sl_exact hc2 | sl_exact hc3 | sl_exact hc4)
  sl_step
  iapply Hk
  isplitl [H6]
  · iexists _; isplitr; swap; · iexact H6
    ipureintro
    exact harg6.read_unread _
  isplitl [H8]
  · iexists _; isplitr; swap; · iexact H8
    ipureintro
    refine (read_put arg8 harg8 Y _ _).trans ?_; sl_unfold_words; dsimp only; simp only [View.readAt_eq_ld, Memref.IsWhole.read_unread, ld2, ld3, rc2]; rfl
  isplitl [H9]
  · iexists _; isplitr; swap; · iexact H9
    ipureintro
    exact harg9.read_unread _
  iexists _; isplitr; swap; · iexact H10
  ipureintro
  refine (read_whole _ _ zero2 _ _ _).trans ?_; sl_unfold_words; dsimp only; simp only [View.readAt_eq_ld, Memref.IsWhole.read_unread, ld2, ld3, rc2]; rfl

set_option maxHeartbeats 4000000 in
/-- A point of the third phase: the output block is the normalised tile. -/
theorem run_three (c : Dev nD) (i : grid0.Coords)
    (arg1 : Memref sig .tc .vmem S1x8x2048 .f32) (harg1 : arg1.IsWhole)
    (arg2 : Memref sig .tc .vmem S1x1024x8 .f32) (harg2 : arg2.IsWhole)
    (arg3 : Memref sig .tc .vmem S1x64x1024 .bf16) (harg3 : arg3.IsWhole)
    (arg4 : Memref sig .tc .vmem S1x64x2048 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S1x128x8192 .f32) (harg7 : arg7.IsWhole)
    (arg8 : Memref sig .tc .vmem S128x131072 .bf16) (harg8 : arg8.IsWhole)
    (arg9 : Memref sig .tc .vmem S128x2 .f32) (harg9 : arg9.IsWhole)
    (arg10 : Memref sig .tc .vmem S128x2 .f32) (harg10 : arg10.IsWhole)
    (hc1 : ¬cond1 i) (hc2 : ¬k0_cond2 i = 1#1) (hc3 : ¬k0_cond3 i = 1#1) (hc4 : k0_cond4 i = 1#1)
    (Y : Vec F S128x131072 .bf16) (T : Vec F S128x2 .f32)
    (E : Set ℕ) (K : PUnit → sProp 𝕄) :
    iprop((∃ d, owns (c : Thread nD τ) arg7 fullShare d) ∗ owns (c : Thread nD τ) arg8 fullShare Y ∗ owns (c : Thread nD τ) arg10 fullShare T
        ∗ (iprop(owns (c : Thread nD τ) arg7 fullShare (k0_pay5 (tile3 i hc4 Y) (col0 T) (col1 T)) ∗ owns (c : Thread nD τ) arg8 fullShare Y ∗ owns (c : Thread nD τ) arg10 fullShare T) -∗ K ⟨⟩))
      ⊢ wp frame (wpE (defs₀ (F := F)) Variants.none c none) E (cc0_mega i arg1 harg1 arg2 harg2 arg3 harg3 arg4 harg4 arg5 harg5 arg6 harg6 arg7 harg7 arg8 harg8 arg9 harg9 arg10 harg10) K := by
  simp only [cc0_mega_eq_skeleton]
  unfold cc0_mega_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%d7, %f7, -, H7⟩, ⟨%f8, %h8, H8⟩, ⟨%f10, %h10, H10⟩, Hk⟩
  obtain rfl := harg8.eq_unread h8
  obtain rfl := harg10.eq_unread h10
  sl_exec (disch := first | sl_exact hc1 | sl_exact hc2 | sl_exact hc3 | sl_exact hc4)
  sl_step
  iapply Hk
  isplitl [H7]
  · iexists _; isplitr; swap; · iexact H7
    ipureintro
    refine (read_whole _ _ zero3 _ _ _).trans ?_; sl_unfold_words; dsimp only; simp only [View.readAt_eq_ld, Memref.IsWhole.read_unread, ld2, ld3, rc2]; rfl
  isplitl [H8]
  · iexists _; isplitr; swap; · iexact H8
    ipureintro
    exact harg8.read_unread _
  iexists _; isplitr; swap; · iexact H10
  ipureintro
  exact harg10.read_unread _

end Cert.KernelIdeal.Body

end
-- ==== Proof.Track.lean ====
module

public import proofs.«01_k».proof.Proof.Body
public import proofs.«01_k».proof.Proof.Gen.KernelIdeal.Points
public import Idealize.ShloMosaic.Lib.Claim

/-! The run of the whole grid, for any meaning of the floating-point operations. The three scratch buffers are followed
    point by point: `st n` is what they hold before point `n`, up to the columns no point has stored yet. -/

@[expose] public section

noncomputable section

namespace Cert.KernelIdeal.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

/-! ## The branch conditions, the offsets and the write-backs in closed form -/

/-- The first branch is taken at the first point only. -/
theorem hcond1 : ∀ t : Fin cfg0.N, cond1 (grid0.coords t) ↔ t.val = 0 :=
  (by decide +kernel : ∀ t : Fin grid0.N, cond1 (grid0.coords t) ↔ t.val = 0)
/-- The second branch is taken at the first 64 points. -/
theorem hcond2 : ∀ t : Fin cfg0.N, k0_cond2 (grid0.coords t) = 1#1 ↔ t.val < 64 :=
  (by decide +kernel : ∀ t : Fin grid0.N, k0_cond2 (grid0.coords t) = 1#1 ↔ t.val < 64)
/-- The third branch is taken at the next 16 points. -/
theorem hcond3 : ∀ t : Fin cfg0.N, k0_cond3 (grid0.coords t) = 1#1 ↔ (64 ≤ t.val ∧ t.val < 80) :=
  (by decide +kernel : ∀ t : Fin grid0.N, k0_cond3 (grid0.coords t) = 1#1 ↔ (64 ≤ t.val ∧ t.val < 80))
/-- The fourth branch is taken at the last 16 points. -/
theorem hcond4 : ∀ t : Fin cfg0.N, k0_cond4 (grid0.coords t) = 1#1 ↔ 80 ≤ t.val :=
  (by decide +kernel : ∀ t : Fin grid0.N, k0_cond4 (grid0.coords t) = 1#1 ↔ 80 ≤ t.val)
/-- The offset of the tile a point of the first phase stores. -/
theorem off1 : ∀ t : Fin cfg0.N, k0_off1 (grid0.coords t) = ![0, 2048 * t.val] :=
  (by decide +kernel : ∀ t : Fin grid0.N, k0_off1 (grid0.coords t) = ![0, 2048 * t.val])
/-- The offset of the tile a point of the second phase reads and stores. -/
theorem off2 : ∀ t : Fin cfg0.N, 64 ≤ t.val → k0_off2 (grid0.coords t) = ![0, 8192 * (t.val - 64)] :=
  (by decide +kernel : ∀ t : Fin grid0.N, 64 ≤ t.val → k0_off2 (grid0.coords t) = ![0, 8192 * (t.val - 64)])
/-- The offset of the tile a point of the third phase reads. -/
theorem off3 : ∀ t : Fin cfg0.N, 80 ≤ t.val → k0_off3 (grid0.coords t) = ![0, 8192 * (t.val - 80)] :=
  (by decide +kernel : ∀ t : Fin grid0.N, 80 ≤ t.val → k0_off3 (grid0.coords t) = ![0, 8192 * (t.val - 80)])
/-- The output block is written back at the points of the third phase. -/
theorem flush6 : ∀ t : Fin cfg0.N, (cfg0.win 6).flush t = true ↔ 80 ≤ t.val :=
  (by decide +kernel : ∀ t : Fin grid0.N, win0_6.flush t = true ↔ 80 ≤ t.val)
/-- The body leaves the output block alone outside the third phase. -/
theorem idle6 (t : Fin cfg0.N) : cfg0.idle 6 (grid0.coords t) = !decide (80 ≤ t.val) := by
  show (!(k0_cond4 (grid0.coords t) == 1#1)) = _
  by_cases h : 80 ≤ t.val
  · rw [(hcond4 t).mpr h]; simp [h]
  · have : ¬ k0_cond4 (grid0.coords t) = 1#1 := fun e => h ((hcond4 t).mp e)
    simp [h, this]

/-- The grid has 96 points. -/
theorem N96 : cfg0.N = 96 := N_0

variable (m : (ℓ : Loc nD τ sig) → Buf (Elt F) ℓ) (ρ : Dev nD → PrngReg)

/-! ## What the scratch holds, point by point -/

/-- The contents of the three scratch buffers: the stored product and the two pairs of running sums. -/
structure St (F : FTy → Type) where
  Y : Vec F S128x131072 .bf16
  S : Vec F S128x2 .f32
  T : Vec F S128x2 .f32

/-- What point `t` makes of them. -/
def step (c : Dev nD) (t : Fin cfg0.N) (σ : St F) : St F :=
  if k0_cond2 (grid0.coords t) = 1#1 then
    ⟨putAt (k0_off1 (grid0.coords t)) S128x2048.size (y1b (iblk m c 0 t) (iblk m c 1 t) (iblk m c 2 t) (iblk m c 3 t) (iblk m c 4 t)) σ.Y,
      s1n (iblk m c 0 t) (iblk m c 1 t) (iblk m c 2 t) (iblk m c 3 t) (iblk m c 4 t) (if t.val = 0 then k0_pay1 else σ.S),
      if t.val = 0 then k0_pay2 else σ.T⟩
  else if h : k0_cond3 (grid0.coords t) = 1#1 then
    ⟨putAt (k0_off2 (grid0.coords t)) S128x8192.size (k0_pay65 (tile2 _ h σ.Y) (col0 σ.S) (col1 σ.S) (iblk m c 5 t)) σ.Y,
      σ.S, k0_pay4 (k0_pay66 (tile2 _ h σ.Y) (col0 σ.S) (col1 σ.S) (iblk m c 5 t) σ.T)⟩
  else σ

/-- Zeros, then the points' steps in order. -/
def st (c : Dev nD) : ℕ → St F
  | 0 => ⟨constant S128x131072 .bf16 0x0000#16, k0_pay1, k0_pay2⟩
  | n + 1 => if h : n < cfg0.N then step m c ⟨n, h⟩ (st c n) else st c n

/-- The scratch before the next point is the point's step of the scratch before it. -/
theorem st_succ (c : Dev nD) (t : Fin cfg0.N) : st m c (t.val + 1) = step m c t (st m c t.val) := by
  show (if h : t.val < cfg0.N then step m c ⟨t.val, h⟩ (st m c t.val) else st m c t.val) = _
  rw [dif_pos t.isLt]

/-- What the scratch may hold before point `n`: from the first point on the running sums are those of `st`, and the
    columns stored so far are those of `st`. -/
def Inv (c : Dev nD) (n : ℕ) (σ : St F) : Prop :=
  (0 < n → σ.S = (st m c n).S ∧ σ.T = (st m c n).T) ∧ ∀ y : S128x131072.Idx, (y 1).val < 2048 * n → σ.Y y = (st m c n).Y y

/-- From point 64 on the scratch is exactly what `st` says. -/
theorem Inv_eq (c : Dev nD) (n : ℕ) (hn : 64 ≤ n) (σ : St F) (h : Inv m c n σ) : σ = st m c n := by
  obtain ⟨h1, h2⟩ := h
  obtain ⟨hS, hT⟩ := h1 (by omega)
  have hY : σ.Y = (st m c n).Y := funext fun y => h2 y (by have : (y 1).val < 131072 := (y 1).isLt; omega)
  cases σ; cases e : st m c n; simp_all

/-- A step keeps the invariant. -/
theorem Inv_step (c : Dev nD) (t : Fin cfg0.N) (σ : St F) (h : Inv m c t.val σ) : Inv m c (t.val + 1) (step m c t σ) := by
  by_cases ht : t.val < 64
  · obtain ⟨h1, h2⟩ := h
    have hc := (hcond2 t).mpr ht
    rw [Inv, st_succ]
    unfold step
    rw [if_pos hc, if_pos hc]
    refine ⟨fun _ => ?_, fun y hy => ?_⟩
    · by_cases hz : t.val = 0
      · simp [hz]
      · obtain ⟨hS, hT⟩ := h1 (by omega)
        simp [hz, hS, hT]
    · show putAt _ _ _ _ y = putAt _ _ _ _ y
      unfold putAt
      split
      · rfl
      · rename_i hn
        refine h2 y ?_
        by_contra hlt
        refine hn ?_
        rw [off1]
        intro a
        have h0 : (y 0).val < 128 := (y 0).isLt
        fin_cases a
        · exact ⟨Nat.zero_le _, by simpa using h0⟩
        · exact ⟨by simpa using hlt, by show (y 1).val < 2048 * t.val + 2048; omega⟩
  · have := Inv_eq m c t.val (by omega) σ h
    subst this
    rw [← st_succ]
    exact ⟨fun _ => ⟨rfl, rfl⟩, fun _ _ => rfl⟩

/-- The output block point `t` leaves, from what the scratch holds before it. -/
def outAt (t : Fin cfg0.N) (σ : St F) : Vec F S1x128x8192 .f32 :=
  if h : k0_cond4 (grid0.coords t) = 1#1 then k0_pay5 (tile3 _ h σ.Y) (col0 σ.T) (col1 σ.T) else constant S1x128x8192 .f32 0x00000000#32

/-! ## The proof data -/

abbrev scM0 : Memref sig .tc .vmem S128x131072 .bf16 := Memref.whole cc0_scratch0
/-- The first pair of running sums. -/
abbrev scM1 : Memref sig .tc .vmem S128x2 .f32 := Memref.whole cc0_scratch1
/-- The second pair of running sums. -/
abbrev scM2 : Memref sig .tc .vmem S128x2 .f32 := Memref.whole cc0_scratch2

/-- What the launch hands the region: the scratch at anything, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The region invariant before point `n`. -/
def Phi (c : Dev nD) (n : ℕ) : sProp 𝕄 :=
  iprop(∃ σ : St F, ⌜Inv m c n σ⌝ ∗ owns (c : Thread nD τ) scM0 fullShare σ.Y ∗ owns (c : Thread nD τ) scM1 fullShare σ.S
    ∗ owns (c : Thread nD τ) scM2 fullShare σ.T ∗ (∃ r, prngReg c r))

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt t (st m c t.val)
  Φ t := Phi m c t.val
  q _ := fullShare
  owed _ := 0

/-- The windows start from the arrays the launch finds. -/
theorem A_eq (c : Dev nD) (w : Fin cfg0.W) : (dats m 0 c).A w = V m c (Pipeline.arrRef spec0 w) := by
  dsimp only [dats]

/-- The body leaves the first input block in place. -/
theorem after_0 (c : Dev nD) (t : Fin cfg0.N) : (dats m 0 c).after 0 t = iblk m c 0 t := by dsimp only [dats]
/-- The body leaves the second input block in place. -/
theorem after_1 (c : Dev nD) (t : Fin cfg0.N) : (dats m 0 c).after 1 t = iblk m c 1 t := by dsimp only [dats]
/-- The body leaves the third input block in place. -/
theorem after_2 (c : Dev nD) (t : Fin cfg0.N) : (dats m 0 c).after 2 t = iblk m c 2 t := by dsimp only [dats]
/-- The body leaves the fourth input block in place. -/
theorem after_3 (c : Dev nD) (t : Fin cfg0.N) : (dats m 0 c).after 3 t = iblk m c 3 t := by dsimp only [dats]
/-- The body leaves the fifth input block in place. -/
theorem after_4 (c : Dev nD) (t : Fin cfg0.N) : (dats m 0 c).after 4 t = iblk m c 4 t := by dsimp only [dats]
/-- The body leaves the sixth input block in place. -/
theorem after_5 (c : Dev nD) (t : Fin cfg0.N) : (dats m 0 c).after 5 t = iblk m c 5 t := by dsimp only [dats]
/-- The body leaves the output block of `outAt`. -/
theorem after_6 (c : Dev nD) (t : Fin cfg0.N) : (dats m 0 c).after 6 t = outAt t (st m c t.val) := by dsimp only [dats]

/-- The body finds the first input block in its buffer. -/
theorem before_0 (c : Dev nD) (t : Fin cfg0.N) (d) : (dats m 0 c).before 0 t d = iblk m c 0 t :=
  before0_0_of m (dats m 0 c) (A_eq m c 0) (after_0 m c) t d
/-- The body finds the second input block in its buffer. -/
theorem before_1 (c : Dev nD) (t : Fin cfg0.N) (d) : (dats m 0 c).before 1 t d = iblk m c 1 t :=
  before0_1_of m (dats m 0 c) (A_eq m c 1) (after_1 m c) t d
/-- The body finds the third input block in its buffer. -/
theorem before_2 (c : Dev nD) (t : Fin cfg0.N) (d) : (dats m 0 c).before 2 t d = iblk m c 2 t :=
  before0_2_of m (dats m 0 c) (A_eq m c 2) (after_2 m c) t d
/-- The body finds the fourth input block in its buffer. -/
theorem before_3 (c : Dev nD) (t : Fin cfg0.N) (d) : (dats m 0 c).before 3 t d = iblk m c 3 t :=
  before0_3_of m (dats m 0 c) (A_eq m c 3) (after_3 m c) t d
/-- The body finds the fifth input block in its buffer. -/
theorem before_4 (c : Dev nD) (t : Fin cfg0.N) (d) : (dats m 0 c).before 4 t d = iblk m c 4 t :=
  before0_4_of m (dats m 0 c) (A_eq m c 4) (after_4 m c) t d
/-- The body finds the sixth input block in its buffer. -/
theorem before_5 (c : Dev nD) (t : Fin cfg0.N) (d) : (dats m 0 c).before 5 t d = iblk m c 5 t :=
  before0_5_of m (dats m 0 c) (A_eq m c 5) (after_5 m c) t d

/-! ## The body obligation -/

/-- What the body finds at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- Outside the third phase the output block is left as it was found. -/
theorem leaves6_idle (c : Dev nD) (t : Fin cfg0.N) (h : ¬ 80 ≤ t.val) :
    (dats m 0 c).leavesExact 6 t = iprop(∃ d, owns (c : Thread nD τ) (st0_6 t) fullShare ((dats m 0 c).before 6 t d)) := by
  have hf : (cfg0.win 6).flush t = false := by
    rw [Bool.eq_false_iff]; exact fun e => h ((flush6 t).mp e)
  have hi : cfg0.idle 6 (grid0.coords t) = true := by rw [idle6]; simp [h]
  unfold Dat.leavesExact
  rw [hi]; dsimp only; rw [hf]

/-- In the third phase the output block is left at `outAt`. -/
theorem leaves6_live (c : Dev nD) (t : Fin cfg0.N) (h : 80 ≤ t.val) :
    (dats m 0 c).leavesExact 6 t = owns (c : Thread nD τ) (st0_6 t) fullShare (outAt t (st m c t.val)) := by
  have hi : cfg0.idle 6 (grid0.coords t) = false := by rw [idle6]; simp [h]
  unfold Dat.leavesExact
  rw [hi, after_6]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  unfold Phi
  by_cases h2 : t.val < 64
  · have hc2 := (hcond2 t).mpr h2
    have hc3 : ¬ k0_cond3 (grid0.coords t) = 1#1 := fun e => by have := (hcond3 t).mp e; omega
    have hc4 : ¬ k0_cond4 (grid0.coords t) = 1#1 := fun e => by have := (hcond4 t).mp e; omega
    rw [leaves6_idle m c t (by omega)]
    by_cases h0 : t.val = 0
    · have hc1 := (hcond1 t).mpr h0
      iintro ⟨⟨%σ, %hσ, HS0, HS1, HS2, Hg⟩, Ho, ⟨%d0, H0⟩, ⟨%d1, H1⟩, ⟨%d2, H2⟩, ⟨%d3, H3⟩, ⟨%d4, H4⟩, ⟨%d5, H5⟩, H6⟩
      iapply (run_first c (grid0.coords t) (win0_0.stage (cfg0.slots t 0)) _ (win0_1.stage (cfg0.slots t 1)) _ (win0_2.stage (cfg0.slots t 2)) _
        (win0_3.stage (cfg0.slots t 3)) _ (win0_4.stage (cfg0.slots t 4)) _ (win0_5.stage (cfg0.slots t 5)) _ (win0_6.stage (cfg0.slots t 6)) _
        scM0 _ scM1 _ scM2 _ hc1 hc2 hc3 hc4 (iblk m c 0 t) (iblk m c 1 t) (iblk m c 2 t) (iblk m c 3 t) (iblk m c 4 t) σ.Y Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexists _; iexact HS1
      isplitl [HS2]; · iexists _; iexact HS2
      iintro ⟨H0, H1, H2, H3, H4, HS0, HS1, HS2⟩
      isplitl [HS0 HS1 HS2 Hg]
      · iexists (step m c t σ)
        isplitr
        · ipureintro; exact Inv_step m c t σ hσ
        unfold step
        simp only [if_pos hc2, if_pos h0]
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬ cond1 (grid0.coords t) := fun e => h0 ((hcond1 t).mp e)
      iintro ⟨⟨%σ, %hσ, HS0, HS1, HS2, Hg⟩, Ho, ⟨%d0, H0⟩, ⟨%d1, H1⟩, ⟨%d2, H2⟩, ⟨%d3, H3⟩, ⟨%d4, H4⟩, ⟨%d5, H5⟩, H6⟩
      iapply (run_one c (grid0.coords t) (win0_0.stage (cfg0.slots t 0)) _ (win0_1.stage (cfg0.slots t 1)) _ (win0_2.stage (cfg0.slots t 2)) _
        (win0_3.stage (cfg0.slots t 3)) _ (win0_4.stage (cfg0.slots t 4)) _ (win0_5.stage (cfg0.slots t 5)) _ (win0_6.stage (cfg0.slots t 6)) _
        scM0 _ scM1 _ scM2 _ hc1 hc2 hc3 hc4 (iblk m c 0 t) (iblk m c 1 t) (iblk m c 2 t) (iblk m c 3 t) (iblk m c 4 t) σ.Y σ.S Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HS2 Hg]
      · iexists (step m c t σ)
        isplitr
        · ipureintro; exact Inv_step m c t σ hσ
        unfold step
        simp only [if_pos hc2, if_neg h0]
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hc1 : ¬ cond1 (grid0.coords t) := fun e => by have := (hcond1 t).mp e; omega
    have hc2 : ¬ k0_cond2 (grid0.coords t) = 1#1 := fun e => h2 ((hcond2 t).mp e)
    by_cases h3 : t.val < 80
    · have hc3 := (hcond3 t).mpr ⟨by omega, h3⟩
      have hc4 : ¬ k0_cond4 (grid0.coords t) = 1#1 := fun e => by have := (hcond4 t).mp e; omega
      rw [leaves6_idle m c t (by omega)]
      iintro ⟨⟨%σ, %hσ, HS0, HS1, HS2, Hg⟩, Ho, ⟨%d0, H0⟩, ⟨%d1, H1⟩, ⟨%d2, H2⟩, ⟨%d3, H3⟩, ⟨%d4, H4⟩, ⟨%d5, H5⟩, H6⟩
      iapply (run_two c (grid0.coords t) (win0_0.stage (cfg0.slots t 0)) _ (win0_1.stage (cfg0.slots t 1)) _ (win0_2.stage (cfg0.slots t 2)) _
        (win0_3.stage (cfg0.slots t 3)) _ (win0_4.stage (cfg0.slots t 4)) _ (win0_5.stage (cfg0.slots t 5)) _ (win0_6.stage (cfg0.slots t 6)) _
        scM0 _ scM1 _ scM2 _ hc1 hc2 hc3 hc4 (iblk m c 5 t) σ.Y σ.S σ.T Set.univ _)
      isplitl [H5]; · iexact H5
      isplitl [HS0]; · iexact HS0
      isplitl [HS1]; · iexact HS1
      isplitl [HS2]; · iexact HS2
      iintro ⟨H5, HS0, HS1, HS2⟩
      isplitl [HS0 HS1 HS2 Hg]
      · iexists (step m c t σ)
        isplitr
        · ipureintro; exact Inv_step m c t σ hσ
        unfold step
        simp only [if_neg hc2, dif_pos hc3]
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc3 : ¬ k0_cond3 (grid0.coords t) = 1#1 := fun e => h3 ((hcond3 t).mp e).2
      have hc4 := (hcond4 t).mpr (by omega : 80 ≤ t.val)
      rw [leaves6_live m c t (by omega)]
      iintro ⟨⟨%σ, %hσ, HS0, HS1, HS2, Hg⟩, Ho, ⟨%d0, H0⟩, ⟨%d1, H1⟩, ⟨%d2, H2⟩, ⟨%d3, H3⟩, ⟨%d4, H4⟩, ⟨%d5, H5⟩, ⟨%d6, H6⟩⟩
      iapply (run_three c (grid0.coords t) (win0_0.stage (cfg0.slots t 0)) _ (win0_1.stage (cfg0.slots t 1)) _ (win0_2.stage (cfg0.slots t 2)) _
        (win0_3.stage (cfg0.slots t 3)) _ (win0_4.stage (cfg0.slots t 4)) _ (win0_5.stage (cfg0.slots t 5)) _ (win0_6.stage (cfg0.slots t 6)) _
        scM0 _ scM1 _ scM2 _ hc1 hc2 hc3 hc4 σ.Y σ.T Set.univ _)
      isplitl [H6]; · iexists _; iexact H6
      isplitl [HS0]; · iexact HS0
      isplitl [HS2]; · iexact HS2
      iintro ⟨H6, HS0, HS2⟩
      isplitl [HS0 HS1 HS2 Hg]
      · iexists (step m c t σ)
        isplitr
        · ipureintro; exact Inv_step m c t σ hσ
        unfold step
        simp only [if_neg hc2, dif_neg hc3]
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      have e := Inv_eq m c t.val (by omega) σ hσ
      subst e
      unfold outAt
      rw [dif_pos hc4]
      iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%a, H0⟩, ⟨%b, H1⟩, ⟨%d, H2⟩⟩, Hg⟩
  iexists (⟨a, b, d⟩ : St F)
  isplitr
  · ipureintro; exact ⟨fun h => absurd h (lt_irrefl 0), fun y h => absurd h (by omega)⟩
  isplitl [H0]; · iexact H0
  isplitl [H1]; · iexact H1
  isplitl [H2]; · iexact H2
  iexact Hg

/-- The invariant after the last point gives the scratch back. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%σ, -, H0, H1, H2, Hg⟩
  isplitl [H0 H1 H2]
  · isplitl [H0]; · iexists _; iexact H0
    isplitl [H1]; · iexists _; iexact H1
    iexists _; iexact H2
  iexact Hg

/-! ## The run -/

set_option backward.isDefEq.respectTransparency.types false in
/-- Every execution of the program ends, with the arrays as the proof data says and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Track

end
-- ==== Proof.Frames.lean ====
/-
  The frames: the printed kernel, the kernel over the extended reals and the reference over the extended reals
  each run to the end, leave their arguments as they were, and leave every semaphore counter at zero.
-/
module

public import proofs.«01_k».proof.Defs
public import proofs.«01_k».proof.Proof.Gen.Kernel
public import proofs.«01_k».proof.Proof.Gen.KernelIdeal
public import proofs.«01_k».proof.Proof.Track
public import proofs.«01_k».proof.Proof.TrackBits
public import proofs.«01_k».proof.Proof.Gen.ReferenceIdeal
public import proofs.«01_k».proof.Proof.Gen.ReferenceIdeal.Run

@[expose] public section

noncomputable section

namespace Cert.Frames

open Idealize.ShloMosaic Idealize.SL.Sem

/-- The printed kernel leaves its arguments unchanged and every counter at zero. -/
theorem kernel : Cert.quiescent_Kernel (hKernel := Cert.Kernel.Gen.facts) := fun m ρ _ =>
  θ_run_and
    (Cert.Kernel.Gen.frame_of m ρ (Cert.Kernel.Track.dats m) (Cert.Kernel.Track.A_eq m)
      ((θ_run Cert.Kernel.defs _ _).mono (fun _ h => h.1) (Cert.Kernel.Track.run_main m ρ)))
    ((θ_run Cert.Kernel.defs _ _).mono (fun _ h => h.2) (Cert.Kernel.Track.run_main m ρ))

/-- The kernel over the extended reals leaves its arguments unchanged and every counter at zero. -/
theorem kernelIdeal : Cert.quiescent_KernelIdeal (hKernelIdeal := Cert.KernelIdeal.Gen.facts) := fun m ρ _ =>
  θ_run_and
    (Cert.KernelIdeal.Gen.frame_of m ρ (Cert.KernelIdeal.Track.dats m) (Cert.KernelIdeal.Track.A_eq m)
      ((θ_run Cert.KernelIdeal.defs _ _).mono (fun _ h => h.1) (Cert.KernelIdeal.Track.run_main m ρ)))
    ((θ_run Cert.KernelIdeal.defs _ _).mono (fun _ h => h.2) (Cert.KernelIdeal.Track.run_main m ρ))

/-- The reference over the extended reals leaves its arguments unchanged, and it has no counter. -/
theorem referenceIdeal : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩)
    (Cert.ReferenceIdeal.Value.run m ρ)

end Cert.Frames

end
-- ==== Proof.Top3.lean ====
/-
  The three smallest entries of a family, with their multiplicity, as the merges of sorted triples compute them.
  A triple is described by thresholds: its first, second, third member is at most `x` exactly when at least one, two,
  three entries of the family are at most `x`.
-/
module

public import Idealize.ShloMosaic.PureOps.Ideal
public import Mathlib.Data.Finset.Card
public import Mathlib.Data.Fintype.Card
public import Mathlib.Tactic.Tauto

@[expose] public section

noncomputable section

namespace Cert.Top3

variable {ι : Type} [DecidableEq ι]

/-- How many entries of the family over `S` are at most `x`. -/
def cnt (e : ι → EReal) (S : Finset ι) (x : EReal) : ℕ := (S.filter fun i => e i ≤ x).card

/-- Over two disjoint sets the counts add. -/
theorem cnt_union (e : ι → EReal) {S T : Finset ι} (h : Disjoint S T) (x : EReal) :
    cnt e (S ∪ T) x = cnt e S x + cnt e T x := by
  unfold cnt
  rw [Finset.filter_union, Finset.card_union_of_disjoint]
  exact Finset.disjoint_filter_filter h

/-- `t1`, `t2`, `t3` are the three smallest entries of the family over `S`. -/
def Is3 (e : ι → EReal) (S : Finset ι) (t1 t2 t3 : EReal) : Prop :=
  ∀ x, (t1 ≤ x ↔ 1 ≤ cnt e S x) ∧ (t2 ≤ x ↔ 2 ≤ cnt e S x) ∧ (t3 ≤ x ↔ 3 ≤ cnt e S x)

/-- `t1`, `t2` are the two smallest entries of the family over `S`, and there is no third. -/
def Is2 (e : ι → EReal) (S : Finset ι) (t1 t2 : EReal) : Prop :=
  ∀ x, (t1 ≤ x ↔ 1 ≤ cnt e S x) ∧ (t2 ≤ x ↔ 2 ≤ cnt e S x) ∧ cnt e S x ≤ 2

/-- Two triples over disjoint sets merge. -/
theorem Is3.merge {e : ι → EReal} {S T : Finset ι} {a1 a2 a3 b1 b2 b3 : EReal} (hd : Disjoint S T)
    (ha : Is3 e S a1 a2 a3) (hb : Is3 e T b1 b2 b3) :
    Is3 e (S ∪ T) (min a1 b1) (min (max a1 b1) (min a2 b2))
      (min (max (max a1 b1) (min a2 b2)) (min a3 b3)) := by
  intro x
  obtain ⟨p1, p2, p3⟩ := ha x
  obtain ⟨q1, q2, q3⟩ := hb x
  rw [cnt_union e hd]
  simp only [min_le_iff, max_le_iff, p1, p2, p3, q1, q2, q3]
  refine ⟨?_, ?_, ?_⟩ <;> omega

/-- Two pairs over disjoint sets merge into a triple. -/
theorem Is2.merge {e : ι → EReal} {S T : Finset ι} {a1 a2 b1 b2 : EReal} (hd : Disjoint S T)
    (ha : Is2 e S a1 a2) (hb : Is2 e T b1 b2) :
    Is3 e (S ∪ T) (min a1 b1) (min (max a1 b1) (min a2 b2)) (max (max a1 b1) (min a2 b2)) := by
  intro x
  obtain ⟨p1, p2, p3⟩ := ha x
  obtain ⟨q1, q2, q3⟩ := hb x
  rw [cnt_union e hd]
  simp only [min_le_iff, max_le_iff, p1, p2, q1, q2]
  refine ⟨?_, ?_, ?_⟩ <;> omega

/-- Two entries make a pair. -/
theorem Is2.of_pair (e : ι → EReal) {i j : ι} (h : i ≠ j) :
    Is2 e ({i} ∪ {j}) (min (e i) (e j)) (max (e i) (e j)) := by
  intro x
  have hd : Disjoint ({i} : Finset ι) {j} := Finset.disjoint_singleton.mpr h
  rw [cnt_union e hd]
  have hc : ∀ k : ι, cnt e {k} x = if e k ≤ x then 1 else 0 := by
    intro k; unfold cnt; rw [Finset.filter_singleton]; split <;> rfl
  rw [hc, hc, min_le_iff, max_le_iff]
  by_cases h1 : e i ≤ x <;> by_cases h2 : e j ≤ x <;> simp [h1, h2]

/-- What a triple is when three entries are known to come before all the others, the third strictly. -/
theorem Is3.eq_of_least {e : ι → EReal} [Fintype ι] {t1 t2 t3 : EReal} (h : Is3 e Finset.univ t1 t2 t3)
    {i0 i1 i2 : ι} (h01 : i0 ≠ i1) (h02 : i0 ≠ i2) (h12 : i1 ≠ i2) (l01 : e i0 ≤ e i1) (l12 : e i1 ≤ e i2)
    (hr : ∀ j, j ≠ i0 → j ≠ i1 → j ≠ i2 → e i2 < e j) : t1 = e i0 ∧ t2 = e i1 ∧ t3 = e i2 := by
  have mono : ∀ x (S : Finset ι), (∀ i ∈ S, e i ≤ x) → S.card ≤ cnt e Finset.univ x := fun x S hS =>
    Finset.card_le_card fun i hi => Finset.mem_filter.mpr ⟨Finset.mem_univ _, hS i hi⟩
  have anti : ∀ x (S : Finset ι), (∀ i, e i ≤ x → i ∈ S) → cnt e Finset.univ x ≤ S.card := fun x S hS =>
    Finset.card_le_card fun i hi => hS i (Finset.mem_filter.mp hi).2
  have all : ∀ j, e i0 ≤ e j := fun j => by
    by_cases j0 : j = i0; · rw [j0]
    by_cases j1 : j = i1; · rw [j1]; exact l01
    by_cases j2 : j = i2; · rw [j2]; exact l01.trans l12
    exact (l01.trans l12).trans (hr j j0 j1 j2).le
  have all1 : ∀ j, j ≠ i0 → e i1 ≤ e j := fun j j0 => by
    by_cases j1 : j = i1; · rw [j1]
    by_cases j2 : j = i2; · rw [j2]; exact l12
    exact l12.trans (hr j j0 j1 j2).le
  have all2 : ∀ j, j ≠ i0 → j ≠ i1 → e i2 ≤ e j := fun j j0 j1 => by
    by_cases j2 : j = i2; · rw [j2]
    exact (hr j j0 j1 j2).le
  refine ⟨le_antisymm ?_ ?_, le_antisymm ?_ ?_, le_antisymm ?_ ?_⟩
  · rw [(h _).1]
    exact mono _ {i0} (by simp)
  · by_contra hlt
    rw [not_le] at hlt
    have := anti t1 ∅ (fun i hi => absurd ((all i).trans hi) (not_le.mpr hlt))
    have := ((h t1).1).mp le_rfl
    simp at *; omega
  · rw [(h _).2.1]
    have := mono (e i1) {i0, i1} (by simp [l01])
    rwa [Finset.card_pair h01] at this
  · by_contra hlt
    rw [not_le] at hlt
    have := anti t2 {i0} (fun i hi => by
      by_contra hn
      exact absurd ((all1 i (by simpa using hn)).trans hi) (not_le.mpr hlt))
    have := ((h t2).2.1).mp le_rfl
    rw [Finset.card_singleton] at *; omega
  · rw [(h _).2.2]
    have := mono (e i2) {i0, i1, i2} (by simp [l12, l01.trans l12])
    rwa [Finset.card_eq_three.mpr ⟨i0, i1, i2, h01, h02, h12, rfl⟩] at this
  · by_contra hlt
    rw [not_le] at hlt
    have := anti t3 {i0, i1} (fun i hi => by
      by_contra hn
      have hn' : i ≠ i0 ∧ i ≠ i1 := by simpa using hn
      exact absurd ((all2 i hn'.1 hn'.2).trans hi) (not_le.mpr hlt))
    have := ((h t3).2.2).mp le_rfl
    rw [Finset.card_pair h01] at *; omega

end Cert.Top3

end
-- ==== Proof.Net.lean ====
/-
  What the kernel's halvings and rotations of the rows compute: for every column, the three smallest of its 1024
  entries. After each step a row holds the three smallest entries of the rows in one residue class.
-/
module

public import proofs.«01_k».proof.Proof.Body
public import proofs.«01_k».proof.Proof.Top3
public import Idealize.ShloMosaic.Lib.Pointwise
public import Idealize.ShloMosaic.Lib.ValueLayout

@[expose] public section

noncomputable section

namespace Cert.KernelIdeal.Net

open Idealize.ShloMosaic Idealize.ShloMosaic.TcCoe
open Idealize.ShloMosaic.ValueIdx hiding ix2
open Cert.KernelIdeal Cert.KernelIdeal.Gen Cert.KernelIdeal.Body Cert.Top3

/-- A table of `H` rows of extended reals. -/
abbrev Tab (H : ℕ) := FVec Ideal ⟨2, ![H, 2048]⟩ .f32

/-- The rows of a residue class. -/
def cls (q r : ℕ) : Finset (Fin 1024) := Finset.univ.filter fun m => m.val % q = r % q

/-- Row `r` of the three tables holds the three smallest entries of the rows of `e` that are `r` modulo `q`. -/
def Trip (H q : ℕ) (e : Tab 1024) (t1 t2 t3 : Tab H) : Prop :=
  ∀ (r : Fin H) (p : Fin 2048), Is3 (fun m : Fin 1024 => e (ix2 m p)) (cls q r) (t1 (ix2 r p)) (t2 (ix2 r p)) (t3 (ix2 r p))

/-- Two different classes modulo `2 * q` inside one class modulo `q` make it up. -/
theorem cls_union {q a b r : ℕ} (hq : 0 < q) (ha : a % q = r % q) (hb : b % q = r % q) (hab : a % (q * 2) ≠ b % (q * 2)) :
    Disjoint (cls (q * 2) a) (cls (q * 2) b) ∧ cls (q * 2) a ∪ cls (q * 2) b = cls q r := by
  constructor
  · rw [Finset.disjoint_left]
    intro m h1 h2
    simp only [cls, Finset.mem_filter, Finset.mem_univ, true_and] at h1 h2
    omega
  · ext m
    simp only [cls, Finset.mem_union, Finset.mem_filter, Finset.mem_univ, true_and]
    rw [Nat.mod_mul (x := m.val), Nat.mod_mul (x := a), Nat.mod_mul (x := b)] at *
    have hm : ∀ x y : ℕ, x % q + q * (x / q % 2) = y % q + q * (y / q % 2) ↔ x % q = y % q ∧ x / q % 2 = y / q % 2 := by
      intro x y
      have h1 := Nat.mod_lt x hq
      have h2 := Nat.mod_lt y hq
      rcases Nat.mod_two_eq_zero_or_one (x / q) with hx | hx <;> rcases Nat.mod_two_eq_zero_or_one (y / q) with hy | hy <;>
        rw [hx, hy] <;> simp <;> omega
    rw [hm, hm]
    rw [Ne, hm] at hab
    omega

/-- One merge of triples. -/
theorem Trip.merge {H h q : ℕ} {e : Tab 1024} {t1 t2 t3 : Tab H} (T : Trip H (q * 2) e t1 t2 t3) (hq : 0 < q)
    {a1 a2 a3 b1 b2 b3 : Tab h} (ρ σ : Fin h → Fin H)
    (hρ : ∀ r, (ρ r).val % q = r.val % q) (hσ : ∀ r, (σ r).val % q = r.val % q)
    (hne : ∀ r, (ρ r).val % (q * 2) ≠ (σ r).val % (q * 2))
    (ha : ∀ r p, a1 (ix2 r p) = t1 (ix2 (ρ r) p) ∧ a2 (ix2 r p) = t2 (ix2 (ρ r) p) ∧ a3 (ix2 r p) = t3 (ix2 (ρ r) p))
    (hb : ∀ r p, b1 (ix2 r p) = t1 (ix2 (σ r) p) ∧ b2 (ix2 r p) = t2 (ix2 (σ r) p) ∧ b3 (ix2 r p) = t3 (ix2 (σ r) p)) :
    Trip h q e (minimumf a1 b1) (minimumf (maximumf a1 b1) (minimumf a2 b2))
      (minimumf (maximumf (maximumf a1 b1) (minimumf a2 b2)) (minimumf a3 b3)) := by
  intro r p
  obtain ⟨hd, hu⟩ := cls_union hq (hρ r) (hσ r) (hne r)
  have := Is3.merge hd (T (ρ r) p) (T (σ r) p)
  rw [hu, ← (ha r p).1, ← (ha r p).2.1, ← (ha r p).2.2, ← (hb r p).1, ← (hb r p).2.1, ← (hb r p).2.2] at this
  exact this

/-- The upper and the lower rows of a table. -/
abbrev top {H : ℕ} (h : ℕ) (t : Tab H) (hs : (⟨2, ![H, 2048]⟩ : Shape).Slices ![0, 0] ⟨2, ![h, 2048]⟩) : Tab h := extractStridedSlice ⟨2, ![h, 2048]⟩ ![0, 0] t hs
/-- The lower rows of a table, from row `o` on. -/
abbrev bot {H : ℕ} (o h : ℕ) (t : Tab H) (hs : (⟨2, ![H, 2048]⟩ : Shape).Slices ![o, 0] ⟨2, ![h, 2048]⟩) : Tab h := extractStridedSlice ⟨2, ![h, 2048]⟩ ![o, 0] t hs

/-- Halving the rows. -/
theorem Trip.halve {H : ℕ} (h : ℕ) {e : Tab 1024} {t1 t2 t3 : Tab H} (hH : H = h * 2) (h0 : 0 < h) (T : Trip H (h * 2) e t1 t2 t3)
    (s0 : (⟨2, ![H, 2048]⟩ : Shape).Slices ![0, 0] ⟨2, ![h, 2048]⟩) (s1 : (⟨2, ![H, 2048]⟩ : Shape).Slices ![h, 0] ⟨2, ![h, 2048]⟩) :
    Trip h h e (minimumf (top h t1 s0) (bot h h t1 s1)) (minimumf (maximumf (top h t1 s0) (bot h h t1 s1)) (minimumf (top h t2 s0) (bot h h t2 s1)))
      (minimumf (maximumf (maximumf (top h t1 s0) (bot h h t1 s1)) (minimumf (top h t2 s0) (bot h h t2 s1))) (minimumf (top h t3 s0) (bot h h t3 s1))) := by
  have ht : ∀ (t : Tab H) r p, top h t s0 (ix2 r p) = t (ix2 ⟨r.val, by omega⟩ p) := fun t r p =>
    slice2_axis0_apply 0 t s0 r p _ (by simp)
  have hb : ∀ (t : Tab H) r p, bot h h t s1 (ix2 r p) = t (ix2 ⟨h + r.val, by omega⟩ p) := fun t r p =>
    slice2_axis0_apply h t s1 r p _ rfl
  refine Trip.merge T h0 (fun r => ⟨r.val, by omega⟩) (fun r => ⟨h + r.val, by omega⟩) (fun r => rfl) (fun r => by simp)
    (fun r => ?_) (fun r p => ⟨ht _ r p, ht _ r p, ht _ r p⟩) (fun r p => ⟨hb _ r p, hb _ r p, hb _ r p⟩)
  have := r.isLt
  simp only
  rw [Nat.mod_eq_of_lt (by omega), Nat.mod_eq_of_lt (by omega)]
  omega

/-- Eight rows rotated by `q`: the last `q` rows come first. -/
abbrev rot (q k : ℕ) (t : Tab 8) (s0 : (⟨2, ![8, 2048]⟩ : Shape).Slices ![k, 0] ⟨2, ![q, 2048]⟩) (s1 : (⟨2, ![8, 2048]⟩ : Shape).Slices ![0, 0] ⟨2, ![k, 2048]⟩)
    (hc : Shape.Concatenates [⟨2, ![q, 2048]⟩, ⟨2, ![k, 2048]⟩] ⟨2, ![8, 2048]⟩ 0) : Tab 8 :=
  concatenate ⟨2, ![8, 2048]⟩ 0 [⟨⟨2, ![q, 2048]⟩, bot k q t s0⟩, ⟨⟨2, ![k, 2048]⟩, top k t s1⟩] hc

/-- A rotated table at a row. -/
theorem rot_apply (q k : ℕ) (hk : q + k = 8) (t : Tab 8) (s0 s1 hc) (r : Fin 8) (p : Fin 2048) :
    rot q k t s0 s1 hc (ix2 r p) = t (ix2 ⟨(r.val + k) % 8, Nat.mod_lt _ (by norm_num)⟩ p) := by
  by_cases hr : r.val < q
  · rw [rot, concatenate_pair_apply_left (s₁ := ⟨2, ![q, 2048]⟩) (s₂ := ⟨2, ![k, 2048]⟩) (t := ⟨2, ![8, 2048]⟩) 0 _ _ hc (ix2 r p) rfl (ix2 ⟨r.val, hr⟩ p)
      (fun b => by match b with | ⟨0, _⟩ => rfl | ⟨1, _⟩ => rfl)]
    exact slice2_axis0_apply k t s0 ⟨r.val, hr⟩ p _ (by simp only; rw [Nat.mod_eq_of_lt (by omega)]; omega)
  · have := r.isLt
    rw [rot, concatenate_pair_apply_right (s₁ := ⟨2, ![q, 2048]⟩) (s₂ := ⟨2, ![k, 2048]⟩) (t := ⟨2, ![8, 2048]⟩) 0 _ _ hc (ix2 r p) rfl rfl (ix2 ⟨r.val - q, by omega⟩ p)
      (fun b hb => by match b with | ⟨0, _⟩ => exact absurd rfl hb | ⟨1, _⟩ => rfl)
      (by show r.val - q + q = r.val; omega)]
    exact slice2_axis0_apply 0 t s1 ⟨r.val - q, by omega⟩ p _ (by simp only; omega)

/-- Merging eight rows with their rotation. -/
theorem Trip.rotate (q k : ℕ) (hk : q + k = 8) (hq : 0 < q) (hd : q * 2 ∣ 8) {e : Tab 1024} {t1 t2 t3 : Tab 8} (T : Trip 8 (q * 2) e t1 t2 t3) (s0 s1 hc) :
    Trip 8 q e (minimumf t1 (rot q k t1 s0 s1 hc)) (minimumf (maximumf t1 (rot q k t1 s0 s1 hc)) (minimumf t2 (rot q k t2 s0 s1 hc)))
      (minimumf (maximumf (maximumf t1 (rot q k t1 s0 s1 hc)) (minimumf t2 (rot q k t2 s0 s1 hc))) (minimumf t3 (rot q k t3 s0 s1 hc))) := by
  have hq8 : q = 4 ∨ q = 2 ∨ q = 1 := by
    have : q ≤ 4 := by have := Nat.le_of_dvd (by norm_num) hd; omega
    interval_cases q <;> first | omega | simp_all
  refine Trip.merge T hq (fun r => r) (fun r => ⟨(r.val + k) % 8, Nat.mod_lt _ (by norm_num)⟩) (fun r => rfl) (fun r => ?_)
    (fun r => ?_) (fun r p => ⟨rfl, rfl, rfl⟩) (fun r p => ⟨rot_apply q k hk .., rot_apply q k hk .., rot_apply q k hk ..⟩)
  · rcases hq8 with rfl | rfl | rfl <;> simp only <;> omega
  · rcases hq8 with rfl | rfl | rfl <;> simp only <;> omega

/-- The first two halvings: from single rows to triples. -/
theorem Trip.first (e : Tab 1024) (s0 s1 u0 u1) :
    Trip 256 256 e
      (minimumf (top 256 (minimumf (top 512 e s0) (bot 512 512 e s1)) u0) (bot 256 256 (minimumf (top 512 e s0) (bot 512 512 e s1)) u1))
      (minimumf (maximumf (top 256 (minimumf (top 512 e s0) (bot 512 512 e s1)) u0) (bot 256 256 (minimumf (top 512 e s0) (bot 512 512 e s1)) u1))
        (minimumf (top 256 (maximumf (top 512 e s0) (bot 512 512 e s1)) u0) (bot 256 256 (maximumf (top 512 e s0) (bot 512 512 e s1)) u1)))
      (maximumf (maximumf (top 256 (minimumf (top 512 e s0) (bot 512 512 e s1)) u0) (bot 256 256 (minimumf (top 512 e s0) (bot 512 512 e s1)) u1))
        (minimumf (top 256 (maximumf (top 512 e s0) (bot 512 512 e s1)) u0) (bot 256 256 (maximumf (top 512 e s0) (bot 512 512 e s1)) u1))) := by
  intro r p
  have hr := r.isLt
  have pair : ∀ (m : Fin 512), Is2 (fun m : Fin 1024 => e (ix2 m p)) (cls 512 m.val) (minimumf (top 512 e s0) (bot 512 512 e s1) (ix2 m p))
      (maximumf (top 512 e s0) (bot 512 512 e s1) (ix2 m p)) := by
    intro m
    have hm := m.isLt
    have ht : top 512 e s0 (ix2 m p) = e (ix2 ⟨m.val, by omega⟩ p) := slice2_axis0_apply 0 e s0 m p _ (by simp)
    have hb : bot 512 512 e s1 (ix2 m p) = e (ix2 ⟨512 + m.val, by omega⟩ p) := slice2_axis0_apply 512 e s1 m p _ rfl
    have := Is2.of_pair (fun m : Fin 1024 => e (ix2 m p)) (i := ⟨m.val, by omega⟩) (j := ⟨512 + m.val, by omega⟩)
      (by intro h; have := congrArg Fin.val h; simp only at this; omega)
    simp only [← ht, ← hb] at this
    have hc : cls 512 m.val = ({⟨m.val, by omega⟩} ∪ {⟨512 + m.val, by omega⟩} : Finset (Fin 1024)) := by
      ext x
      have hx := x.isLt
      simp only [cls, Finset.mem_filter, Finset.mem_univ, true_and, Finset.mem_union, Finset.mem_singleton, Fin.ext_iff]
      omega
    rw [hc]
    exact this
  have ht : ∀ t : Tab 512, top 256 t u0 (ix2 r p) = t (ix2 ⟨r.val, by omega⟩ p) := fun t => slice2_axis0_apply 0 t u0 r p _ (by simp)
  have hb : ∀ t : Tab 512, bot 256 256 t u1 (ix2 r p) = t (ix2 ⟨256 + r.val, by omega⟩ p) := fun t => slice2_axis0_apply 256 t u1 r p _ rfl
  obtain ⟨hd, hu⟩ := cls_union (q := 256) (a := r.val) (b := 256 + r.val) (r := r.val) (by norm_num) rfl (by simp) (by omega)
  have := Is2.merge hd (pair ⟨r.val, by omega⟩) (pair ⟨256 + r.val, by omega⟩)
  rw [hu, ← ht (minimumf _ _), ← ht (maximumf _ _), ← hb (minimumf _ _), ← hb (maximumf _ _)] at this
  exact this

variable (x1 : Vec Ideal S1x8x2048 .f32) (x2 : Vec Ideal S1x1024x8 .f32)

/-- After two halvings each of 256 rows holds the three smallest entries of its residue class. -/
theorem trip256 : Trip 256 256 (k0_pay7 x1 x2) (k0_pay12 x1 x2) (minimumf (k0_pay13 x1 x2) (k0_pay14 x1 x2)) (maximumf (k0_pay13 x1 x2) (k0_pay14 x1 x2)) :=
  Trip.first (k0_pay7 x1 x2) _ _ _ _

/-- After three halvings each of 128 rows holds the three smallest entries of its residue class. -/
theorem trip128 : Trip 128 128 (k0_pay7 x1 x2) (k0_pay17 x1 x2) (k0_pay20 x1 x2) (k0_pay21 x1 x2) :=
  (trip256 x1 x2).halve 128 rfl (by norm_num) slices_S256x2048_o0_0_S128x2048 slices_S256x2048_o128_0_S128x2048

/-- After the halvings each of eight rows holds the three smallest entries of its residue class. -/
theorem trip8 : Trip 8 8 (k0_pay7 x1 x2) (k0_pay41 (k0_pay22 x1 x2) (k0_pay25 x1 x2))
    (minimumf (k0_pay42 (k0_pay22 x1 x2) (k0_pay25 x1 x2)) (k0_pay43 (k0_pay20 x1 x2) (k0_pay22 x1 x2) (k0_pay23 x1 x2) (k0_pay25 x1 x2)))
    (c110 x1 x2) :=
  ((((trip128 x1 x2).halve 64 rfl (by norm_num) slices_S128x2048_o0_0_S64x2048 slices_S128x2048_o64_0_S64x2048).halve 32 rfl (by norm_num)
    slices_S64x2048_o0_0_S32x2048 slices_S64x2048_o32_0_S32x2048).halve 16 rfl (by norm_num) slices_S32x2048_o0_0_S16x2048
    slices_S32x2048_o16_0_S16x2048).halve 8 rfl (by norm_num) slices_S16x2048_o0_0_S8x2048 slices_S16x2048_o8_0_S8x2048

/-- After the first rotation each row holds the three smallest entries of its residue class modulo four. -/
theorem trip4 : Trip 8 4 (k0_pay7 x1 x2) (c120 x1 x2) (minimumf (c121 x1 x2) (c122 x1 x2))
    (minimumf (maximumf (c121 x1 x2) (c122 x1 x2)) (minimumf (c110 x1 x2) (c119 x1 x2))) :=
  (trip8 x1 x2).rotate 4 4 rfl (by norm_num) (by norm_num) slices_S8x2048_o4_0_S4x2048 slices_S8x2048_o0_0_S4x2048 concatenates_S4x2048_S4x2048_S8x2048_d0

/-- The smallest and the second smallest entry of each column. -/
def m1 : FVec Ideal S1x2048 .f32 :=
  extractStridedSlice S1x2048 ![0, 0] (minimumf (k0_pay51 (c120 x1 x2)) (k0_pay54 (c120 x1 x2))) slices_S8x2048_o0_0_S1x2048
/-- The second smallest entry of every column. -/
def m2 : FVec Ideal S1x2048 .f32 :=
  extractStridedSlice S1x2048 ![0, 0] (minimumf (k0_pay55 (c120 x1 x2)) (k0_pay56 (c120 x1 x2) (c121 x1 x2) (c122 x1 x2))) slices_S8x2048_o0_0_S1x2048

/-- The network finds the three smallest entries of every column. -/
theorem is3 (p : Fin 2048) : Is3 (fun m : Fin 1024 => k0_pay7 x1 x2 (ix2 m p)) Finset.univ
    (m1 x1 x2 (ix2 0 p)) (m2 x1 x2 (ix2 0 p)) (t161 x1 x2 (ix2 0 p)) := by
  have T := ((trip4 x1 x2).rotate 2 6 rfl (by norm_num) (by norm_num) slices_S8x2048_o6_0_S2x2048 slices_S8x2048_o0_0_S6x2048
    concatenates_S2x2048_S6x2048_S8x2048_d0).rotate 1 7 rfl (by norm_num) (by norm_num) slices_S8x2048_o7_0_S1x2048 slices_S8x2048_o0_0_S7x2048
    concatenates_S1x2048_S7x2048_S8x2048_d0
  have hc : cls 1 (0 : Fin 8).val = Finset.univ := by
    ext m; simp [cls, Nat.mod_one]
  have hs : ∀ t : Tab 8, extractStridedSlice S1x2048 ![0, 0] t slices_S8x2048_o0_0_S1x2048 (ix2 (0 : Fin 1) p) = t (ix2 (0 : Fin 8) p) :=
    fun t => slice2_axis0_apply 0 t slices_S8x2048_o0_0_S1x2048 0 p 0 rfl
  have T0 := T 0 p
  rw [hc] at T0
  have key : ∀ {a b c : EReal}, m1 x1 x2 (ix2 0 p) = a → m2 x1 x2 (ix2 0 p) = b → t161 x1 x2 (ix2 0 p) = c →
      Is3 (fun m : Fin 1024 => k0_pay7 x1 x2 (ix2 m p)) Finset.univ a b c →
      Is3 (fun m : Fin 1024 => k0_pay7 x1 x2 (ix2 m p)) Finset.univ (m1 x1 x2 (ix2 0 p)) (m2 x1 x2 (ix2 0 p)) (t161 x1 x2 (ix2 0 p)) := by
    rintro _ _ _ rfl rfl rfl h; exact h
  exact key (hs _) (hs _) (by unfold t161 k0_pay57; exact hs _) T0

end Cert.KernelIdeal.Net

end
-- ==== Proof.Scalars.lean ====
/-
  The extended reals the two programs compute on are here always real numbers; how each operation acts on them, and
  the real numbers the programs' constants are.
-/
module

public import Idealize.ShloMosaic.PureOps
public import Idealize.ShloMosaic.Lib.Pointwise

@[expose] public section

noncomputable section

namespace Cert.Scalars

open Idealize.ShloMosaic

/-- A sum of real numbers, taken in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals. -/
theorem coe_max (a b : ℝ) : max (a : EReal) (b : EReal) = ((max a b : ℝ) : EReal) :=
  (EReal.coe_strictMono.monotone.map_max).symm

/-- A quotient of real numbers with a divisor that is not zero. -/
theorem coe_div (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- The square root of a real number that is not negative. -/
theorem coe_sqrt (a : ℝ) (ha : 0 ≤ a) : Ideal.sqrt (a : EReal) = ((√a : ℝ) : EReal) := by
  rw [Ideal.sqrt_coe, if_neg (not_lt.mpr ha)]

/-- The reciprocal of the square root of a positive real number. -/
theorem coe_rsqrt (a : ℝ) (ha : 0 < a) : Ideal.rsqrt (a : EReal) = (((√a)⁻¹ : ℝ) : EReal) := by
  rw [Ideal.rsqrt_coe, if_neg (not_lt.mpr ha.le), if_neg ha.ne']

/-- The least squared distance that is divided by. -/
def least : ℝ := 14411519 * 2 ^ (-57 : ℤ)
/-- What is added to a variance. -/
def eps : ℝ := 10995116 * 2 ^ (-40 : ℤ)

/-- It is positive. -/
theorem least_pos : 0 < least := by unfold least; positivity
/-- It is positive. -/
theorem eps_pos : 0 < eps := by unfold eps; positivity

/-- The least squared distance, as a constant of the programs. -/
theorem bits_least : Ideal.ofBits .f32 0x2EDBE6FF#32 = ((least : ℝ) : EReal) := by
  unfold least
  simp [Ideal.ofBits, Ideal.ieee, FTy.bits]
/-- What is added to a variance, as a constant of the programs. -/
theorem bits_eps : Ideal.ofBits .f32 0x3727C5AC#32 = ((eps : ℝ) : EReal) := by
  unfold eps
  simp [Ideal.ofBits, Ideal.ieee, FTy.bits]
/-- The number of columns, as a constant of the programs. -/
theorem bits_count : Ideal.ofBits .f32 0x48000000#32 = ((131072 : ℝ) : EReal) := by
  simp [Ideal.ofBits, Ideal.ieee, FTy.bits]
  norm_num
  rw [← EReal.coe_mul]
  norm_num
/-- The reciprocal of the number of columns, as a constant of the programs. -/
theorem bits_share : Ideal.ofBits .f32 0x37000000#32 = ((1 / 131072 : ℝ) : EReal) := by
  simp [Ideal.ofBits, Ideal.ieee, FTy.bits]
  norm_num
  rw [← EReal.coe_mul]
  norm_num
/-- A quarter, as a constant of the programs. -/
theorem bits_quarter : Ideal.ofBits .f32 0x3E800000#32 = ((1 / 4 : ℝ) : EReal) := by
  simp [Ideal.ofBits, Ideal.ieee, FTy.bits]
  norm_num
  rw [← EReal.coe_mul]
  norm_num
/-- Two, as a constant of the programs. -/
theorem bits_two : Ideal.ofBits .f32 0x40000000#32 = ((2 : ℝ) : EReal) := by
  simp [Ideal.ofBits, Ideal.ieee, FTy.bits]
  norm_num
  rw [← EReal.coe_mul]
  norm_num
/-- Minus two, as a constant of the programs. -/
theorem bits_minus_two : Ideal.ofBits .f32 0xC0000000#32 = ((-2 : ℝ) : EReal) := by
  simp [Ideal.ofBits, Ideal.ieee, FTy.bits]
  norm_num
  rw [← EReal.coe_mul]
  norm_num
/-- One, as a constant of the programs. -/
theorem bits_one : Ideal.ofBits .f32 0x3F800000#32 = ((1 : ℝ) : EReal) := by
  simp [Ideal.ofBits, Ideal.ieee, FTy.bits]
  norm_num
  rw [← EReal.coe_mul]
  norm_num
/-- Infinity, as a constant of the programs. -/
theorem bits_top : Ideal.ofBits .f32 0x7F800000#32 = (⊤ : EReal) := by
  simp [Ideal.ofBits, Ideal.ieee, FTy.bits]

/-- A number whose absolute value is below infinity is a real number. -/
theorem real_of_abs_lt (x : EReal) (h : max x (-x) < ⊤) : ∃ r : ℝ, x = (r : EReal) := by
  induction x with
  | bot => simp at h
  | top => simp at h
  | coe r => exact ⟨r, rfl⟩

end Cert.Scalars

end
-- ==== Proof.Pick.lean ====
/-
  What the comparison's host operations read as at one index: the order in which a row is sorted, the largest entries
  of a row with their positions, the rows a gather takes, and a sum over the first and the last axis.
-/
module

public import Idealize.ShloMosaic.PureOps
public import Idealize.ShloMosaic.Lib.SortFacts
public import Idealize.ShloMosaic.Lib.Pointwise
public import Idealize.ShloMosaic.Lib.ValueIdxCore

@[expose] public section

noncomputable section

namespace Cert.Pick

open Idealize.ShloMosaic

variable {A N M : ℕ}

/-- The table whose rows are sorted. -/
abbrev Tab (A N M : ℕ) := FVec Ideal ⟨3, ![A, N, M]⟩ .f32

/-- The position of the entry that comes `k`-th when row `(b, n)` is sorted, the largest first. -/
def rk (x : Tab A N M) (b : Fin A) (n : Fin N) (k : Fin M) : Fin M :=
  sortedFrom (fun k k' => FloatOps.cmpfTotal (F := Ideal) (φ := .f32) .gt (x (ix3 b n k)) (x (ix3 b n k')) == 1#1) k

/-- No two places of the sorted row come from the same position. -/
theorem rk_inj (x : Tab A N M) (b : Fin A) (n : Fin N) : Function.Injective (rk x b n) := sortedFrom_injective _

/-- Every position is the source of some place of the sorted row. -/
theorem rk_surj (x : Tab A N M) (b : Fin A) (n : Fin N) : Function.Surjective (rk x b n) := sortedFrom_surjective _

/-- The comparison that sorts: greater first. -/
theorem gt_iff (u v : EReal) : (FloatOps.cmpfTotal (F := Ideal) (φ := .f32) .gt u v == 1#1) = decide (v < u) := by
  show (BitVec.ofBool (decide (v < u)) == 1#1) = decide (v < u)
  by_cases h : v < u <;> simp [h]

/-- A later place holds no larger entry. -/
theorem rk_anti (x : Tab A N M) (b : Fin A) (n : Fin N) {i j : Fin M} (hij : i < j) :
    (x (ix3 b n (rk x b n j)) : EReal) ≤ x (ix3 b n (rk x b n i)) := by
  have h := sortedFrom_noInversion
    (fun k k' => FloatOps.cmpfTotal (F := Ideal) (φ := .f32) .gt (x (ix3 b n k)) (x (ix3 b n k')) == 1#1)
    (fun k k' => FloatOps.cmpfTotal (F := Ideal) (φ := .f32) .gt (x (ix3 b n k)) (x (ix3 b n k')) == 1#1)
    (fun a c h => by
      simp only [gt_iff, decide_eq_true_eq, decide_eq_false_iff_not] at h ⊢
      exact not_lt.mpr (le_of_lt h))
    (fun a c h => h)
    (fun a c d h1 h2 => by
      simp only [gt_iff, decide_eq_false_iff_not, not_lt] at h1 h2 ⊢
      exact le_trans h1 h2) i j hij
  change (FloatOps.cmpfTotal (F := Ideal) (φ := .f32) .gt (x (ix3 b n (rk x b n j))) (x (ix3 b n (rk x b n i))) == 1#1)
    = false at h
  rw [gt_iff, decide_eq_false_iff_not, not_lt] at h
  exact h

/-- The index `(b, n, k)` moved along its last axis. -/
theorem along_ix3 (b : Fin A) (n : Fin N) (k : Fin M) :
    Shape.Idx.along (s := ⟨3, ![A, N, M]⟩) (ix3 b n k) ⟨2, Nat.lt_succ_self 2⟩ = fun k' : Fin M => ix3 b n k' := by
  funext k' a
  match a with
  | ⟨0, _⟩ => rfl
  | ⟨1, _⟩ => rfl
  | ⟨2, _⟩ => rfl

/-- The first entries of every row, read at an index. -/
theorem cut3 {q : ℕ} {α : Type} (y : (⟨3, ![A, N, M]⟩ : Shape).Idx → α)
    (h : (⟨3, ![A, N, M]⟩ : Shape).Slices (fun _ => 0) ⟨3, ![A, N, q]⟩)
    (b : Fin A) (n : Fin N) (k : Fin q) (hk : k.val < M) :
    extractStridedSlice ⟨3, ![A, N, q]⟩ (fun _ => 0) y h (ix3 b n k) = y (ix3 b n ⟨k.val, hk⟩) := by
  unfold extractStridedSlice
  refine congrArg y ?_
  funext a
  match a with
  | ⟨0, _⟩ => exact Fin.ext (Nat.zero_add _)
  | ⟨1, _⟩ => exact Fin.ext (Nat.zero_add _)
  | ⟨2, _⟩ => exact Fin.ext (Nat.zero_add _)

/-- The `k`-th largest value of a row. -/
theorem topK_val {q : ℕ} (x : Tab A N M) (h : (⟨3, ![A, N, M]⟩ : Shape).Slices (fun _ => 0) ⟨3, ![A, N, q]⟩)
    (b : Fin A) (n : Fin N) (k : Fin q) (hk : k.val < M) :
    (Host.topK ⟨3, ![A, N, q]⟩ 2 (FloatOps.cmpfTotal (F := Ideal) (φ := .f32) .gt) x h).1 (ix3 b n k)
      = x (ix3 b n (rk x b n ⟨k.val, hk⟩)) := by
  unfold Host.topK
  dsimp only
  refine (cut3 _ h b n k hk).trans ?_
  exact congrArg (fun f : Fin M → (⟨3, ![A, N, M]⟩ : Shape).Idx => x (f (sortedFrom (fun a a' =>
    FloatOps.cmpfTotal (F := Ideal) (φ := .f32) .gt (x (f a)) (x (f a')) == 1#1) ⟨k.val, hk⟩)))
    (along_ix3 b n ⟨k.val, hk⟩)

/-- The position of the `k`-th largest value of a row, as a word. -/
theorem topK_pos {q : ℕ} (x : Tab A N M) (h : (⟨3, ![A, N, M]⟩ : Shape).Slices (fun _ => 0) ⟨3, ![A, N, q]⟩)
    (b : Fin A) (n : Fin N) (k : Fin q) (hk : k.val < M) :
    (Host.topK ⟨3, ![A, N, q]⟩ 2 (FloatOps.cmpfTotal (F := Ideal) (φ := .f32) .gt) x h).2 (ix3 b n k)
      = BitVec.ofNat 32 (rk x b n ⟨k.val, hk⟩).val := by
  unfold Host.topK
  dsimp only
  refine (cut3 _ h b n k hk).trans ?_
  exact congrArg (fun f : Fin M → (⟨3, ![A, N, M]⟩ : Shape).Idx => iotaInDim ⟨3, ![A, N, M]⟩ 32 2 (f (sortedFrom (fun a a' =>
    FloatOps.cmpfTotal (F := Ideal) (φ := .f32) .gt (x (f a)) (x (f a')) == 1#1) ⟨k.val, hk⟩)))
    (along_ix3 b n ⟨k.val, hk⟩)

/-- A sum over the first and the last axis of a table. -/
theorem sum_ends (h : (⟨3, ![A, N, M]⟩ : Shape).ReducesTo [0, 2] ⟨1, ![N]⟩)
    (x : (⟨3, ![A, N, M]⟩ : Shape).Idx → EReal) (z : EReal) (o : Fin N) :
    Ideal.hostReduceAdd h x z (ix1 o) = z + ∑ b : Fin A, ∑ n : Fin M, x (ix3 b o n) := by
  unfold Ideal.hostReduceAdd
  congr 1
  rw [← Fintype.sum_prod_type' (f := fun (b : Fin A) (n : Fin M) => x (ix3 b o n))]
  have hd : ∀ i : (⟨3, ![A, N, M]⟩ : Shape).Idx, h.drop i = ix1 (i 1) := by
    intro i
    funext a
    match a with
    | ⟨0, _⟩ => rfl
  refine Finset.sum_bij' (fun i _ => ((i 0 : Fin A), (i 2 : Fin M))) (fun p _ => ix3 p.1 o p.2) ?_ ?_ ?_ ?_ ?_
  · intros; exact Finset.mem_univ _
  · intro p _
    rw [Finset.mem_filter]
    exact ⟨Finset.mem_univ _, hd _⟩
  · intro i hi
    rw [Finset.mem_filter, hd] at hi
    have h1 : i 1 = o := congrFun hi.2 0
    funext a
    match a with
    | ⟨0, _⟩ => rfl
    | ⟨1, _⟩ => exact h1.symm
    | ⟨2, _⟩ => rfl
  · intros; rfl
  · intro i hi
    rw [Finset.mem_filter, hd] at hi
    have h1 : i 1 = o := congrFun hi.2 0
    congr 1
    funext a
    match a with
    | ⟨0, _⟩ => rfl
    | ⟨1, _⟩ => exact h1
    | ⟨2, _⟩ => rfl

/-- The dimension numbers of taking rows in every batch. -/
abbrev rowsOf {A M E N Q : ℕ}
    (wf : GatherDims.WF ⟨3, ![A, M, E]⟩ ⟨4, ![A, N, Q, 1]⟩ ⟨4, ![A, N, Q, E]⟩ [3] [1] [0] [1] [0] 3 ![1, 1, E]) :
    GatherDims ⟨3, ![A, M, E]⟩ ⟨4, ![A, N, Q, 1]⟩ ⟨4, ![A, N, Q, E]⟩ where
  offsetDims := [3]
  collapsedSliceDims := [1]
  operandBatchingDims := [0]
  startIndicesBatchingDims := [0]
  startIndexMap := [1]
  indexVectorDim := 3
  sliceSizes := ![1, 1, E]
  wf := wf

/-- The rows a gather takes: in every batch, the rows of the operand at the given positions. -/
theorem take_rows {A M E N Q : ℕ} {α : Type}
    (wf : GatherDims.WF ⟨3, ![A, M, E]⟩ ⟨4, ![A, N, Q, 1]⟩ ⟨4, ![A, N, Q, E]⟩ [3] [1] [0] [1] [0] 3 ![1, 1, E])
    (x : (⟨3, ![A, M, E]⟩ : Shape).Idx → α) (idx : IVec ⟨4, ![A, N, Q, 1]⟩ 32)
    (b : Fin A) (n : Fin N) (q : Fin Q) (e : Fin E) (r : Fin M) (hr : (idx (ix4 b n q 0)).toInt.toNat = r.val) :
    Host.gather
      (rowsOf wf) x idx (ix4 b n q e)
      = x (ix3 b r e) := by
  unfold Host.gather
  congr 1
  have hsi : ∀ c, GatherDims.siIdx
      (rowsOf wf)
      (ix4 b n q e) c = (ix4 b n q 0 : (⟨4, ![A, N, Q, 1]⟩ : Shape).Idx) := by
    intro c
    funext a
    match a with
    | ⟨0, _⟩ => rfl
    | ⟨1, _⟩ => rfl
    | ⟨2, _⟩ => rfl
    | ⟨3, _⟩ => exact Subsingleton.elim (α := Fin 1) _ _
  funext a
  refine Fin.ext ?_
  match a with
  | ⟨0, _⟩ =>
    show GatherDims.start _ _ _ _ + GatherDims.batchCoord _ _ _ + GatherDims.offCoord _ _ _ = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, h1⟩ =>
    show GatherDims.start _ _ _ _ + GatherDims.batchCoord _ _ _ + GatherDims.offCoord _ _ _ = r.val
    rw [GatherDims.batchCoord_eq_zero _ _ _ (fun hm => absurd (congrArg Fin.val (List.mem_singleton.mp hm)) (Nat.succ_ne_zero _)),
      GatherDims.offCoord_eq_zero _ _ _ (fun h => ((GatherDims.mem_sKept _ _).mp h).1 (List.mem_singleton.mpr rfl)),
      Nat.add_zero]
    unfold GatherDims.start
    rw [dif_pos (show (⟨1, h1⟩ : Fin 3) ∈ (rowsOf wf).startIndexMap from List.mem_singleton.mpr rfl), hsi, hr]
    exact Nat.min_eq_left (Nat.le_sub_one_of_lt r.isLt)
  | ⟨2, _⟩ =>
    show GatherDims.start _ _ _ _ + GatherDims.batchCoord _ _ _ + GatherDims.offCoord _ _ _ = e.val
    rw [GatherDims.batchCoord_eq_zero _ _ _ (fun hm => absurd (congrArg Fin.val (List.mem_singleton.mp hm)) (Nat.succ_ne_zero _))]
    unfold GatherDims.start
    rw [dif_neg (fun hm => absurd (congrArg Fin.val (List.mem_singleton.mp hm)) (show (2 : ℕ) ≠ 1 from Nat.succ_succ_ne_one 0)), Nat.zero_add]
    rfl

end Cert.Pick

end
-- ==== Proof.Spec.lean ====
/-
  What is computed, over the real numbers: squared distances, the interpolation of three features by the inverse
  distances, and two layers, each normalised over all columns and cut at zero.
-/
module

public import proofs.«01_k».proof.Proof.Scalars
public import proofs.«01_k».proof.Proof.Pick

@[expose] public section

noncomputable section

namespace Cert.Spec

open Idealize.ShloMosaic Cert.Scalars

/-- A table of 128 rows over all columns, a column being a batch and a point. -/
abbrev Cols := Fin 8 → Fin 16384 → Fin 128 → ℝ

/-- The mean of a row. -/
def mean (y : Cols) (o : Fin 128) : ℝ := (∑ b, ∑ n, y b n o) / 131072
/-- The variance of a row. -/
def var (y : Cols) (o : Fin 128) : ℝ := (∑ b, ∑ n, (y b n o - mean y o) * (y b n o - mean y o)) / 131072
/-- A row normalised by its mean and variance and cut at zero. -/
def norm (y : Cols) : Cols := fun b n o => max ((y b n o - mean y o) / √(var y o + eps)) 0

/-- The sum of a constant over all columns. -/
theorem sum_const (r : ℝ) : ∑ _b : Fin 8, ∑ _n : Fin 16384, r = 131072 * r := by
  simp only [Finset.sum_const, Finset.card_univ, Fintype.card_fin, nsmul_eq_mul]
  push_cast
  ring

/-- A variance is not negative. -/
theorem var_nonneg (y : Cols) (o : Fin 128) : 0 ≤ var y o := by
  unfold var
  refine div_nonneg (Finset.sum_nonneg fun b _ => Finset.sum_nonneg fun n _ => mul_self_nonneg _) (by norm_num)

/-- The variance is the mean of the squares less the square of the mean. -/
theorem var_eq (y : Cols) (o : Fin 128) :
    (∑ b, ∑ n, y b n o * y b n o) / 131072 - mean y o * mean y o = var y o := by
  have h1 : ∀ b n, (y b n o - mean y o) * (y b n o - mean y o)
      = y b n o * y b n o - 2 * mean y o * y b n o + mean y o * mean y o := fun b n => by ring
  have hm : ∑ b, ∑ n, y b n o = 131072 * mean y o := by unfold mean; ring
  unfold var
  simp only [h1, Finset.sum_add_distrib, Finset.sum_sub_distrib, ← Finset.mul_sum, sum_const, hm]
  ring

/-- Adding to every row a constant of its own moves its mean. -/
theorem mean_shift (y : Cols) (B : Fin 128 → ℝ) (o : Fin 128) :
    mean (fun b n o => y b n o + B o) o = mean y o + B o := by
  unfold mean
  simp only [Finset.sum_add_distrib, sum_const]
  ring

/-- Adding to every row a constant of its own leaves the normalised rows. -/
theorem norm_shift (y : Cols) (B : Fin 128 → ℝ) : norm (fun b n o => y b n o + B o) = norm y := by
  have hv : ∀ o, var (fun b n o => y b n o + B o) o = var y o := fun o => by
    unfold var
    simp only [mean_shift, add_sub_add_right_eq_sub]
  funext b n o
  unfold norm
  simp only [hv, mean_shift, add_sub_add_right_eq_sub]

section
variable (K : Fin 8 → Fin 3 → Fin 1024 → ℝ) (Fe : Fin 8 → Fin 64 → Fin 1024 → ℝ) (X : Fin 8 → Fin 3 → Fin 16384 → ℝ)
  (G : Fin 8 → Fin 64 → Fin 16384 → ℝ) (W1 W2 : Fin 128 → Fin 128 → ℝ) (σ : Fin 8 → Fin 16384 → Fin 3 → Fin 1024)

/-- The squared distance of a point from a key. -/
def dist (b : Fin 8) (n : Fin 16384) (m : Fin 1024) : ℝ :=
  ∑ a, X b a n * X b a n - 2 * ∑ a, X b a n * K b a m + ∑ a, K b a m * K b a m

/-- The inverse distance of a point from one of its three keys. -/
def inv (b : Fin 8) (n : Fin 16384) (k : Fin 3) : ℝ := 1 / max (dist K X b n (σ b n k)) least

/-- An inverse distance is positive. -/
theorem inv_pos (b : Fin 8) (n : Fin 16384) (k : Fin 3) : 0 < inv K X σ b n k := by
  unfold inv
  exact one_div_pos.mpr (lt_of_lt_of_le least_pos (le_max_right _ _))

/-- The weight of one of the three keys of a point. -/
def wt (b : Fin 8) (n : Fin 16384) (k : Fin 3) : ℝ := inv K X σ b n k / ∑ k', inv K X σ b n k'

/-- The first layer before normalisation. -/
def y1 : Cols := fun b n o =>
  (∑ f : Fin 64, (∑ k, Fe b f (σ b n k) * wt K X σ b n k) * W1 o ⟨f.val, by omega⟩)
    + ∑ f : Fin 64, G b f n * W1 o ⟨64 + f.val, by omega⟩

/-- The second layer before normalisation. -/
def y2 : Cols := fun b n o => ∑ q, norm (y1 K Fe X G W1 σ) b n q * W2 o q

/-- The result. -/
def out : Cols := norm (y2 K Fe X G W1 W2 σ)

end

/-- The table of negated squared distances, the one whose rows are sorted. -/
def negDist (K : Fin 8 → Fin 3 → Fin 1024 → ℝ) (X : Fin 8 → Fin 3 → Fin 16384 → ℝ) : Pick.Tab 8 16384 1024 :=
  fun i => ((-dist K X (i 0) (i 1) (i 2) : ℝ) : EReal)

/-- The three nearest keys of a point. -/
def near (K : Fin 8 → Fin 3 → Fin 1024 → ℝ) (X : Fin 8 → Fin 3 → Fin 16384 → ℝ) (b : Fin 8) (n : Fin 16384)
    (k : Fin 3) : Fin 1024 := Pick.rk (negDist K X) b n ⟨k.val, by omega⟩

section
variable (K : Fin 8 → Fin 3 → Fin 1024 → ℝ) (X : Fin 8 → Fin 3 → Fin 16384 → ℝ)

/-- The third smallest distance is strictly below the fourth, for every point. -/
def Apart : Prop := ∀ b n, dist K X b n (Pick.rk (negDist K X) b n 2) < dist K X b n (Pick.rk (negDist K X) b n 3)

/-- A later place of the sorted row holds no smaller distance. -/
theorem dist_mono (b : Fin 8) (n : Fin 16384) {i j : Fin 1024} (h : i < j) :
    dist K X b n (Pick.rk (negDist K X) b n i) ≤ dist K X b n (Pick.rk (negDist K X) b n j) :=
  neg_le_neg_iff.mp (EReal.coe_le_coe_iff.mp (Pick.rk_anti (negDist K X) b n h))

/-- The three nearest keys are three different ones. -/
theorem near_inj (b : Fin 8) (n : Fin 16384) : Function.Injective (near K X b n) := fun i j h =>
  Fin.ext (Fin.mk.inj (Pick.rk_inj (negDist K X) b n h))

/-- Every other key is farther away than the third. -/
theorem near_far (h : Apart K X) (b : Fin 8) (n : Fin 16384) (m : Fin 1024) (hm : ∀ k, m ≠ near K X b n k) :
    dist K X b n (near K X b n 2) < dist K X b n m := by
  obtain ⟨j, rfl⟩ := Pick.rk_surj (negDist K X) b n m
  have hj : 3 ≤ j.val := by
    by_contra hlt
    exact hm ⟨j.val, by omega⟩ rfl
  rcases Nat.lt_or_ge 3 j.val with h3 | h3
  · exact lt_of_lt_of_le (h b n) (dist_mono K X b n (Fin.lt_def.mpr h3))
  · obtain rfl : j = 3 := Fin.ext (by omega)
    exact h b n

/-- The nearest key is no farther away than the second. -/
theorem near_le01 (b : Fin 8) (n : Fin 16384) : dist K X b n (near K X b n 0) ≤ dist K X b n (near K X b n 1) :=
  dist_mono K X b n (by decide)
/-- The second nearest key is no farther away than the third. -/
theorem near_le12 (b : Fin 8) (n : Fin 16384) : dist K X b n (near K X b n 1) ≤ dist K X b n (near K X b n 2) :=
  dist_mono K X b n (by decide)

/-- The keys no farther away than the third nearest are the three nearest. -/
theorem near_iff (h : Apart K X) (b : Fin 8) (n : Fin 16384) (m : Fin 1024) :
    dist K X b n m ≤ dist K X b n (near K X b n 2) ↔ ∃ k, near K X b n k = m := by
  constructor
  · intro hm
    by_contra hne
    exact absurd hm (not_le.mpr (near_far K X h b n m fun k hk => hne ⟨k, hk.symm⟩))
  · rintro ⟨k, rfl⟩
    match k with
    | 0 => exact (near_le01 K X b n).trans (near_le12 K X b n)
    | 1 => exact near_le12 K X b n
    | 2 => exact le_refl _

end

/-- A sum over the positions an injective list names is the sum over the list. -/
theorem sum_picked {N M : ℕ} (s : Fin N → Fin M) (hs : Function.Injective s) (P : Fin M → Prop) [DecidablePred P]
    (hP : ∀ m, P m ↔ ∃ k, s k = m) (g : Fin M → ℝ) : ∑ m, (if P m then g m else 0) = ∑ k, g (s k) := by
  rw [← Finset.sum_filter]
  have hf : Finset.univ.filter P = Finset.univ.image s := by
    ext m
    simp [hP]
  rw [hf, Finset.sum_image fun _ _ _ _ h => hs h]

/-- Normalisation as the comparison spells it. -/
theorem norm_ref (y : Cols) (b : Fin 8) (n : Fin 16384) (o : Fin 128) :
    max (Ideal.div (((y b n o : ℝ) : EReal) - ((mean y o : ℝ) : EReal))
      (Ideal.sqrt (((var y o : ℝ) : EReal) + Ideal.ofBits .f32 0x3727C5AC#32))) 0 = ((norm y b n o : ℝ) : EReal) := by
  have hp : 0 < var y o + eps := add_pos_of_nonneg_of_pos (var_nonneg y o) eps_pos
  rw [bits_eps, ← EReal.coe_add, coe_sqrt _ hp.le, ← EReal.coe_sub, coe_div _ _ (Real.sqrt_pos.mpr hp).ne',
    ← EReal.coe_zero, coe_max]
  rfl

/-- Normalisation as the kernel spells it, from the sums of a row and of its squares. -/
theorem norm_ker (y : Cols) (b : Fin 8) (n : Fin 16384) (o : Fin 128) (v s q : EReal) (hv : v = ((y b n o : ℝ) : EReal))
    (hs : s = ((∑ b, ∑ n, y b n o : ℝ) : EReal)) (hq : q = ((∑ b, ∑ n, y b n o * y b n o : ℝ) : EReal)) :
    max ((v - s * Ideal.ofBits .f32 0x37000000#32) * Ideal.rsqrt (q * Ideal.ofBits .f32 0x37000000#32
      - s * Ideal.ofBits .f32 0x37000000#32 * (s * Ideal.ofBits .f32 0x37000000#32) + Ideal.ofBits .f32 0x3727C5AC#32)) 0
      = ((norm y b n o : ℝ) : EReal) := by
  have hp : 0 < var y o + eps := add_pos_of_nonneg_of_pos (var_nonneg y o) eps_pos
  have hm : (∑ b, ∑ n, y b n o) * (1 / 131072) = mean y o := by unfold mean; ring
  have hw : (∑ b, ∑ n, y b n o * y b n o) * (1 / 131072) - mean y o * mean y o = var y o := by
    rw [← var_eq]; ring
  rw [hv, hs, hq, bits_eps, bits_share, ← EReal.coe_mul, ← EReal.coe_mul, hm, ← EReal.coe_mul, ← EReal.coe_sub, ← EReal.coe_sub, hw,
    ← EReal.coe_add, coe_rsqrt _ hp, ← EReal.coe_mul, ← EReal.coe_zero, coe_max, ← div_eq_mul_inv]
  rfl

end Cert.Spec

end
-- ==== Proof.KPay.lean ====
/-
  What the kernel's three phases compute from the blocks they read, at one index, when the blocks hold the real
  numbers of one column.
-/
module

public import proofs.«01_k».proof.Proof.Net
public import proofs.«01_k».proof.Proof.Spec

@[expose] public section

noncomputable section

namespace Cert.KernelIdeal.KPay

open Idealize.ShloMosaic Idealize.ShloMosaic.TcCoe
open Cert.KernelIdeal Cert.KernelIdeal.Gen Cert.KernelIdeal.Body Cert.Scalars Cert.Spec

variable (K : Fin 8 → Fin 3 → Fin 1024 → ℝ) (Fe : Fin 8 → Fin 64 → Fin 1024 → ℝ) (X : Fin 8 → Fin 3 → Fin 16384 → ℝ)
  (G : Fin 8 → Fin 64 → Fin 16384 → ℝ) (W1 W2 : Fin 128 → Fin 128 → ℝ)

/-- The eight entries of a point's column: its coordinates, four zeros and a one. -/
def qrow (b : Fin 8) (n : Fin 16384) : Fin 8 → ℝ := ![X b 0 n, X b 1 n, X b 2 n, 0, 0, 0, 0, 1]
/-- The eight entries of a key's row: its coordinates times minus two, and five zeros. -/
def krow (b : Fin 8) (m : Fin 1024) : Fin 8 → ℝ := ![K b 0 m * (-2), K b 1 m * (-2), K b 2 m * (-2), 0, 0, 0, 0, 0]
/-- The squared length of a point. -/
def len (b : Fin 8) (n : Fin 16384) : ℝ := ∑ a, X b a n * X b a n

/-- The first two blocks hold, at column `p`, the point `n` of batch `b` and the keys of that batch. -/
structure Pts (x1 : Vec Ideal S1x8x2048 .f32) (x2 : Vec Ideal S1x1024x8 .f32) (p : Fin 2048) (b : Fin 8) (n : Fin 16384) :
    Prop where
  q : ∀ a, (x1 (ix3 0 a p) : EReal) = ((qrow X b n a : ℝ) : EReal)
  k : ∀ m a, (x2 (ix3 0 m a) : EReal) = ((krow K b m a : ℝ) : EReal)

variable {K X} {x1 : Vec Ideal S1x8x2048 .f32} {x2 : Vec Ideal S1x1024x8 .f32} {p : Fin 2048} {b : Fin 8} {n : Fin 16384}

/-- An entry of the table that is searched: the squared distance less the point's squared length. -/
theorem pay7 (H : Pts K X x1 x2 p b n) (m : Fin 1024) :
    (k0_pay7 x1 x2 (ix2 m p) : EReal) = ((dist K X b n m - len X b n : ℝ) : EReal) := by
  pointwise [k0_pay7, k0_pay6]
  simp only [H.q, H.k, bits_quarter, ← EReal.coe_mul, coe_sum, ← EReal.coe_add]
  congr 1
  simp only [Spec.dist, len, Fin.sum_univ_eight, Fin.sum_univ_three, krow, qrow]
  simp
  ring

/-- The point's squared length. -/
theorem pay8 (H : Pts K X x1 x2 p b n) : (k0_pay8 x1 (ix2 0 p) : EReal) = ((len X b n : ℝ) : EReal) := by
  pointwise [k0_pay8, k0_pay6]
  simp only [H.q, ← EReal.coe_mul, coe_sum]
  rw [← EReal.coe_one, ← EReal.coe_sub]
  congr 1
  simp only [len, Fin.sum_univ_eight, Fin.sum_univ_three, qrow]
  simp

/-- The three smallest entries are those of the three nearest keys. -/
theorem three (hA : Apart K X) (H : Pts K X x1 x2 p b n) :
    (Net.m1 x1 x2 (ix2 0 p) : EReal) = ((dist K X b n (near K X b n 0) - len X b n : ℝ) : EReal)
      ∧ (Net.m2 x1 x2 (ix2 0 p) : EReal) = ((dist K X b n (near K X b n 1) - len X b n : ℝ) : EReal)
      ∧ (t161 x1 x2 (ix2 0 p) : EReal) = ((dist K X b n (near K X b n 2) - len X b n : ℝ) : EReal) := by
  have h := Top3.Is3.eq_of_least (Net.is3 x1 x2 p) (i0 := near K X b n 0) (i1 := near K X b n 1) (i2 := near K X b n 2)
    ((near_inj K X b n).ne (by decide)) ((near_inj K X b n).ne (by decide)) ((near_inj K X b n).ne (by decide))
    (by
      show (k0_pay7 x1 x2 (ix2 _ p) : EReal) ≤ k0_pay7 x1 x2 (ix2 _ p)
      rw [pay7 H, pay7 H, EReal.coe_le_coe_iff]
      exact sub_le_sub_right (near_le01 K X b n) _)
    (by
      show (k0_pay7 x1 x2 (ix2 _ p) : EReal) ≤ k0_pay7 x1 x2 (ix2 _ p)
      rw [pay7 H, pay7 H, EReal.coe_le_coe_iff]
      exact sub_le_sub_right (near_le12 K X b n) _)
    (by
      intro m h0 h1 h2
      show (k0_pay7 x1 x2 (ix2 _ p) : EReal) < k0_pay7 x1 x2 (ix2 _ p)
      rw [pay7 H, pay7 H, EReal.coe_lt_coe_iff]
      refine sub_lt_sub_right (near_far K X hA b n m fun k => ?_) _
      match k with
      | 0 => exact h0
      | 1 => exact h1
      | 2 => exact h2)
  exact ⟨h.1.trans (pay7 H _), h.2.1.trans (pay7 H _), h.2.2.trans (pay7 H _)⟩

/-- One divided by a distance that is at least `least`. -/
theorem inv_of (d : ℝ) (s l : EReal) (q : ℝ) (hs : s = ((d - q : ℝ) : EReal)) (hl : l = ((q : ℝ) : EReal)) :
    Ideal.div 1 (max (s + l) (Ideal.ofBits .f32 0x2EDBE6FF#32)) = ((1 / max d least : ℝ) : EReal) := by
  rw [hs, hl, ← EReal.coe_add, sub_add_cancel, bits_least, coe_max, ← EReal.coe_one,
    coe_div _ _ (lt_of_lt_of_le least_pos (le_max_right _ _)).ne']

/-- The inverse distance of the nearest key. -/
theorem i0 (hA : Apart K X) (H : Pts K X x1 x2 p b n) :
    (r166 x1 x2 (ix2 0 p) : EReal) = ((inv K X (near K X) b n 0 : ℝ) : EReal) := by
  change divf _ _ _ = _
  rw [show extractStridedSlice S1x2048 ![0, 0] (minimumf (k0_pay51 (c120 x1 x2)) (k0_pay54 (c120 x1 x2)))
    slices_S8x2048_o0_0_S1x2048 = Net.m1 x1 x2 from rfl]
  pointwise []
  exact inv_of _ _ _ _ (three hA H).1 (pay8 H)

/-- The inverse distance of the second nearest key. -/
theorem i1 (hA : Apart K X) (H : Pts K X x1 x2 p b n) :
    (r171 x1 x2 (ix2 0 p) : EReal) = ((inv K X (near K X) b n 1 : ℝ) : EReal) := by
  change divf _ _ _ = _
  rw [show extractStridedSlice S1x2048 ![0, 0] (minimumf (k0_pay55 (c120 x1 x2)) (k0_pay56 (c120 x1 x2) (c121 x1 x2) (c122 x1 x2)))
    slices_S8x2048_o0_0_S1x2048 = Net.m2 x1 x2 from rfl]
  pointwise []
  exact inv_of _ _ _ _ (three hA H).2.1 (pay8 H)

/-- The inverse distance of the third nearest key. -/
theorem i2 (hA : Apart K X) (H : Pts K X x1 x2 p b n) :
    (r176 x1 x2 (ix2 0 p) : EReal) = ((inv K X (near K X) b n 2 : ℝ) : EReal) := by
  change divf _ _ _ = _
  rw [show k0_pay57 (c110 x1 x2) (c119 x1 x2) (c120 x1 x2) (c121 x1 x2) (c122 x1 x2) = t161 x1 x2 from rfl]
  pointwise []
  exact inv_of _ _ _ _ (three hA H).2.2 (pay8 H)

variable {Fe G W1 W2} {x3 : Vec Ideal S1x64x1024 .bf16} {x4 : Vec Ideal S1x64x2048 .f32} {x5 : Vec Ideal S128x128 .f32}

/-- The tile of the first layer. -/
theorem tile1 (hA : Apart K X) (H : Pts K X x1 x2 p b n)
    (h3 : ∀ f m, (x3 (ix3 0 f m) : EReal) = ((Fe b f m : ℝ) : EReal))
    (h4 : ∀ f, (x4 (ix3 0 f p) : EReal) = ((G b f n : ℝ) : EReal))
    (h5 : ∀ o q, (x5 (ix2 o q) : EReal) = ((W1 o q : ℝ) : EReal)) (o : Fin 128) :
    (y1f x1 x2 x3 x4 x5 (ix2 o p) : EReal) = ((y1 K Fe X G W1 (near K X) b n o : ℝ) : EReal) := by
  have hs : (∑ k : Fin 3, inv K X (near K X) b n k) ≠ 0 :=
    (Finset.sum_pos (fun k _ => inv_pos K X (near K X) b n k) Finset.univ_nonempty).ne'
  have hw : ∀ m : Fin 1024, (if (k0_pay7 x1 x2 (ix2 m p) : EReal) ≤ t161 x1 x2 (ix2 0 p) then
      Ideal.div 1 (max ((k0_pay7 x1 x2 (ix2 m p) : EReal) + k0_pay8 x1 (ix2 0 p)) (Ideal.ofBits .f32 0x2EDBE6FF#32))
        * Ideal.div 1 ((r166 x1 x2 (ix2 0 p) : EReal) + r171 x1 x2 (ix2 0 p) + r176 x1 x2 (ix2 0 p)) else (0 : EReal))
      = ((if dist K X b n m ≤ dist K X b n (near K X b n 2) then
          1 / max (dist K X b n m) least / ∑ k : Fin 3, inv K X (near K X) b n k else 0 : ℝ) : EReal) := by
    intro m
    rw [inv_of _ _ _ _ (pay7 H m) (pay8 H), i0 hA H, i1 hA H, i2 hA H, pay7 H, (three hA H).2.2, ← EReal.coe_add,
      ← EReal.coe_add, ← Fin.sum_univ_three (fun k => inv K X (near K X) b n k), ← EReal.coe_one, coe_div _ _ hs,
      ← EReal.coe_mul]
    simp only [EReal.coe_le_coe_iff, sub_le_sub_iff_right]
    split
    · rw [mul_one_div]
    · rfl
  have hp : ∀ f : Fin 64, (∑ m : Fin 1024, Fe b f m * (if dist K X b n m ≤ dist K X b n (near K X b n 2) then
      1 / max (dist K X b n m) least / ∑ k : Fin 3, inv K X (near K X) b n k else 0))
      = ∑ k, Fe b f (near K X b n k) * wt K X (near K X) b n k := by
    intro f
    simp only [mul_ite, mul_zero]
    exact sum_picked (near K X b n) (near_inj K X b n) _ (near_iff K X hA b n)
      (fun m => Fe b f m * (1 / max (dist K X b n m) least / ∑ k : Fin 3, inv K X (near K X) b n k))
  pointwise [y1f, k0_pay61]
  simp only [hw, h3, h4, h5, ← EReal.coe_mul, coe_sum, hp, ← EReal.coe_add]
  congr 1
  unfold y1
  simp only [mul_comm (W1 _ _)]

/-- The stored tile is the tile. -/
theorem tile1_stored (x3 : Vec Ideal S1x64x1024 .bf16) (x4 : Vec Ideal S1x64x2048 .f32) (x5 : Vec Ideal S128x128 .f32)
    (o : Fin 128) : (y1b x1 x2 x3 x4 x5 (ix2 o p) : EReal) = y1f x1 x2 x3 x4 x5 (ix2 o p) := by
  pointwise [y1b, k0_pay62]
  rfl

/-- The running sums after a tile of the first phase. -/
theorem sums1 (x3 : Vec Ideal S1x64x1024 .bf16) (x4 : Vec Ideal S1x64x2048 .f32) (x5 : Vec Ideal S128x128 .f32)
    (S : Vec Ideal S128x2 .f32) (o : Fin 128) :
    (s1n x1 x2 x3 x4 x5 S (ix2 o 0) : EReal) = S (ix2 o 0) + ∑ p, (y1f x1 x2 x3 x4 x5 (ix2 o p) : EReal)
    ∧ (s1n x1 x2 x3 x4 x5 S (ix2 o 1) : EReal) = S (ix2 o 1) + ∑ p, (y1f x1 x2 x3 x4 x5 (ix2 o p) : EReal)
        * y1f x1 x2 x3 x4 x5 (ix2 o p) := by
  constructor
  · pointwise [s1n, k0_pay3, k0_pay63]
    rfl
  · pointwise [s1n, k0_pay3, k0_pay63]
    rfl

section
variable (y : Cols) {C : ℕ} {v17 : Vec Ideal S128x8192 .bf16} {v19 v22 : Vec Ideal S128x1 .f32} {v36 : Vec Ideal S128x128 .f32}
  {W : Fin 128 → Fin 128 → ℝ} {j : Fin 8192} {b : Fin 8} {n : Fin 16384}

/-- The tile of the second layer: the normalised columns times the matrix. -/
theorem tile2 (h17 : ∀ x, (v17 (ix2 x j) : EReal) = ((y b n x : ℝ) : EReal))
    (h19 : ∀ x, (v19 (ix2 x 0) : EReal) = ((∑ b, ∑ n, y b n x : ℝ) : EReal))
    (h22 : ∀ x, (v22 (ix2 x 0) : EReal) = ((∑ b, ∑ n, y b n x * y b n x : ℝ) : EReal))
    (h36 : ∀ o q, (v36 (ix2 o q) : EReal) = ((W o q : ℝ) : EReal)) (o : Fin 128) :
    (k0_pay64 v17 v19 v22 v36 (ix2 o j) : EReal) = ((∑ q, norm y b n q * W o q : ℝ) : EReal) := by
  have hk := fun x => norm_ker y b n x _ _ _ (h17 x) (h19 x) (h22 x)
  pointwise [k0_pay64]
  simp only [hk, h36, ← EReal.coe_mul, coe_sum, mul_comm (W _ _)]

/-- The stored tile is the tile. -/
theorem tile2_stored (v17 : Vec Ideal S128x8192 .bf16) (v19 v22 : Vec Ideal S128x1 .f32) (v36 : Vec Ideal S128x128 .f32)
    (o : Fin 128) (j : Fin 8192) :
    (k0_pay65 v17 v19 v22 v36 (ix2 o j) : EReal) = k0_pay64 v17 v19 v22 v36 (ix2 o j) := by
  pointwise [k0_pay65]

/-- The running sums after a tile of the second phase. -/
theorem sums2 (v17 : Vec Ideal S128x8192 .bf16) (v19 v22 : Vec Ideal S128x1 .f32) (v36 : Vec Ideal S128x128 .f32)
    (T : Vec Ideal S128x2 .f32) (o : Fin 128) :
    (k0_pay4 (k0_pay66 v17 v19 v22 v36 T) (ix2 o 0) : EReal) = T (ix2 o 0) + ∑ j, (k0_pay64 v17 v19 v22 v36 (ix2 o j) : EReal)
    ∧ (k0_pay4 (k0_pay66 v17 v19 v22 v36 T) (ix2 o 1) : EReal) = T (ix2 o 1) + ∑ j, (k0_pay64 v17 v19 v22 v36 (ix2 o j) : EReal)
        * k0_pay64 v17 v19 v22 v36 (ix2 o j) := by
  constructor
  · pointwise [k0_pay4, k0_pay66]
  · pointwise [k0_pay4, k0_pay66]

/-- The output block: the normalised columns. -/
theorem tile3 (h17 : ∀ x, (v17 (ix2 x j) : EReal) = ((y b n x : ℝ) : EReal))
    (h19 : ∀ x, (v19 (ix2 x 0) : EReal) = ((∑ b, ∑ n, y b n x : ℝ) : EReal))
    (h22 : ∀ x, (v22 (ix2 x 0) : EReal) = ((∑ b, ∑ n, y b n x * y b n x : ℝ) : EReal)) (o : Fin 128) :
    (k0_pay5 v17 v19 v22 (ix3 0 o j) : EReal) = ((norm y b n o : ℝ) : EReal) := by
  have hk := fun x => norm_ker y b n x _ _ _ (h17 x) (h19 x) (h22 x)
  pointwise [k0_pay5]
  exact hk o

end

/-- The running sums start at zero. -/
theorem zero1 (o : Fin 128) (k : Fin 2) : (k0_pay1 (F := Ideal) (ix2 o k) : EReal) = ((0 : ℝ) : EReal) := by
  pointwise [k0_pay1]
  rfl
/-- The running sums start at zero. -/
theorem zero2 (o : Fin 128) (k : Fin 2) : (k0_pay2 (F := Ideal) (ix2 o k) : EReal) = ((0 : ℝ) : EReal) := by
  pointwise [k0_pay2]
  rfl

end Cert.KernelIdeal.KPay

end
-- ==== Proof.Blocks.lean ====
/-
  The blocks the kernel reads at each point, at coordinates of the argument arrays.
-/
module

public import proofs.«01_k».proof.Proof.Track
public import proofs.«01_k».proof.Proof.KPay
public import Idealize.ShloMosaic.Lib.Pipeline.ValueKit
public import Idealize.ShloMosaic.Lib.StableHlo.RunRead

@[expose] public section

noncomputable section

namespace Cert.KernelIdeal.Blocks

open Idealize.ShloMosaic Idealize.ShloMosaic.TcCoe
open Cert.KernelIdeal Cert.KernelIdeal.Gen Cert.KernelIdeal.Body Cert.Scalars Cert.Spec

variable (m : (ℓ : Loc nD τ sig) → Buf (Elt Ideal) ℓ)

/-! Where the windows' blocks lie in the first phase. -/

/-- In the first phase the first window stands at batch `t / 8`, tile `t % 8`. -/
theorem idx0 : ∀ t : Fin cfg0.N, t.val < 64 → win0_0.index t = ![t.val / 8, 0, t.val % 8] :=
  (by decide +kernel : ∀ t : Fin grid0.N, t.val < 64 → win0_0.index t = ![t.val / 8, 0, t.val % 8])
/-- In the first phase the second window stands at batch `t / 8`. -/
theorem idx1 : ∀ t : Fin cfg0.N, t.val < 64 → win0_1.index t = ![t.val / 8, 0, 0] :=
  (by decide +kernel : ∀ t : Fin grid0.N, t.val < 64 → win0_1.index t = ![t.val / 8, 0, 0])
/-- In the first phase the third window stands at batch `t / 8`. -/
theorem idx2 : ∀ t : Fin cfg0.N, t.val < 64 → win0_2.index t = ![t.val / 8, 0, 0] :=
  (by decide +kernel : ∀ t : Fin grid0.N, t.val < 64 → win0_2.index t = ![t.val / 8, 0, 0])
/-- In the first phase the fourth window stands at batch `t / 8`, tile `t % 8`. -/
theorem idx3 : ∀ t : Fin cfg0.N, t.val < 64 → win0_3.index t = ![t.val / 8, 0, t.val % 8] :=
  (by decide +kernel : ∀ t : Fin grid0.N, t.val < 64 → win0_3.index t = ![t.val / 8, 0, t.val % 8])
/-- The fifth window is its whole array. -/
theorem idx4 : ∀ t : Fin cfg0.N, win0_4.index t = ![0, 0] :=
  (by decide +kernel : ∀ t : Fin grid0.N, win0_4.index t = ![0, 0])
/-- The sixth window is its whole array. -/
theorem idx5 : ∀ t : Fin cfg0.N, win0_5.index t = ![0, 0] :=
  (by decide +kernel : ∀ t : Fin grid0.N, win0_5.index t = ![0, 0])
/-- In the third phase the output window stands at batch `(t - 80) / 2`, half `(t - 80) % 2`. -/
theorem idx6 : ∀ t : Fin cfg0.N, 80 ≤ t.val → win0_6.index t = ![(t.val - 80) / 2, 0, (t.val - 80) % 2] :=
  (by decide +kernel : ∀ t : Fin grid0.N, 80 ≤ t.val → win0_6.index t = ![(t.val - 80) / 2, 0, (t.val - 80) % 2])

/-- The point in batch and column that column `p` of tile `t` of the first phase is. -/
def bt (t : Fin cfg0.N) (ht : t.val < 64) : Fin 8 := ⟨t.val / 8, by omega⟩
/-- See `bt`. -/
def nt (t : Fin cfg0.N) (p : Fin 2048) : Fin 16384 := ⟨t.val % 8 * 2048 + p.val, by omega⟩

variable (c : Dev nD) (t : Fin cfg0.N)

/-- Three coordinate rows, four rows and one row, one below the other. -/
def cat3 (x : Vec Ideal S8x3x16384 .f32) (y : Vec Ideal S8x4x16384 .f32) (z : Vec Ideal S8x1x16384 .f32) : Vec Ideal S8x8x16384 .f32 :=
  concatenate S8x8x16384 1 [⟨S8x3x16384, x⟩, ⟨S8x4x16384, y⟩, ⟨S8x1x16384, z⟩] concatenates_S8x3x16384_S8x4x16384_S8x1x16384_S8x8x16384_d1

/-- The first operand: the points' coordinates above zeros above ones. -/
theorem V_points : V m c main_v2 = cat3 (m ((c : Thread nD τ).loc main_arg2))
    (broadcastInDim S8x4x16384 ![] bcast_S_S8x4x16384 (constant (F := Ideal) S_ .f32 0x00000000#32))
    (broadcastInDim S8x1x16384 ![] bcast_S_S8x1x16384 (constant (F := Ideal) S_ .f32 0x3F800000#32)) := by
  refine (StableHlo.after_last_write (i := 4) [main_v3, main_cst_1, main_v4, main_v5, main_cst_2, main_v6, main_v7, main_v8] rfl rfl (by decide) _).trans ?_
  rw [StableHlo.nary_result]
  have e0 : StableHlo.upto hostOps0 (fun b => m (c, b)) 4 (Proc.devRef .tc main_arg2) = m ((c : Thread nD τ).loc main_arg2) := by
    show StableHlo.after (hostOps0.take 4) _ _ = _
    simp only [hostOps0, List.take]
    entry_read
    rfl
  have e1 : StableHlo.upto hostOps0 (fun b => m (c, b)) 4 (Proc.devRef .tc main_v0)
      = broadcastInDim S8x4x16384 ![] bcast_S_S8x4x16384 (constant (F := Ideal) S_ .f32 0x00000000#32) := by
    show StableHlo.after (hostOps0.take 4) _ _ = _
    simp only [hostOps0, List.take]
    entry_read
    rfl
  have e2 : StableHlo.upto hostOps0 (fun b => m (c, b)) 4 (Proc.devRef .tc main_v1)
      = broadcastInDim S8x1x16384 ![] bcast_S_S8x1x16384 (constant (F := Ideal) S_ .f32 0x3F800000#32) := by
    show StableHlo.after (hostOps0.take 4) _ _ = _
    simp only [hostOps0, List.take]
    entry_read
    rfl
  show cat3 (StableHlo.upto hostOps0 (fun b => m (c, b)) 4 (Proc.devRef .tc main_arg2)) (StableHlo.upto hostOps0 (fun b => m (c, b)) 4 (Proc.devRef .tc main_v0))
    (StableHlo.upto hostOps0 (fun b => m (c, b)) 4 (Proc.devRef .tc main_v1)) = _
  rw [e0, e1, e2]

/-- A column of the first block: a point's coordinates, zeros, and a one. -/
theorem b0 {X : Fin 8 → Fin 3 → Fin 16384 → ℝ}
    (hX : ∀ b a n, (m ((c : Thread nD τ).loc main_arg2) (ix3 b a n) : EReal) = ((X b a n : ℝ) : EReal))
    (ht : t.val < 64) (a : Fin 8) (p : Fin 2048) :
    (iblk m c 0 t (ix3 0 a p) : EReal) = ((KPay.qrow X (bt t ht) (nt t p) a : ℝ) : EReal) := by
  have e := idx0 t ht
  have h : (iblk m c 0 t (ix3 0 a p) : EReal) = V m c main_v2 (ix3 (bt t ht) a (nt t p)) := by
    unfold iblk
    blk_ext [e, bt, nt]
  rw [h, V_points]
  pointwise [cat3]
  split
  · rename_i h3
    refine (hX (bt t ht) ⟨a.val, h3⟩ (nt t p)).trans ?_
    congr 1
    obtain ⟨a, ha⟩ := a
    have h4 : a < 3 := h3
    interval_cases a <;> rfl
  · rename_i h3
    obtain ⟨a, ha⟩ := a
    have h4 : ¬ a < 3 := h3
    rw [← EReal.coe_zero, ← EReal.coe_one]
    interval_cases a <;> first | rfl | omega

/-- A row of the second block: a key's coordinates times minus two, and zeros. -/
theorem b1 {K : Fin 8 → Fin 3 → Fin 1024 → ℝ}
    (hK : ∀ b a k, (m ((c : Thread nD τ).loc main_arg0) (ix3 b a k) : EReal) = ((K b a k : ℝ) : EReal))
    (ht : t.val < 64) (k : Fin 1024) (a : Fin 8) :
    (iblk m c 1 t (ix3 0 k a) : EReal) = ((KPay.krow K (bt t ht) k a : ℝ) : EReal) := by
  have e := idx1 t ht
  have h : (iblk m c 1 t (ix3 0 k a) : EReal) = V m c main_v7 (ix3 (bt t ht) k a) := by
    unfold iblk
    blk_ext [e, bt, nt]
  rw [h]
  entry_read
  pointwise []
  rw [bits_minus_two]
  split
  · rename_i h3
    refine (congrArg (· * (((-2 : ℝ)) : EReal)) (hK (bt t ht) ⟨a.val, h3⟩ k)).trans ?_
    rw [← EReal.coe_mul]
    congr 1
    obtain ⟨a, ha⟩ := a
    have h4 : a < 3 := h3
    interval_cases a <;> rfl
  · rename_i h3
    rw [← EReal.coe_zero]
    congr 1
    obtain ⟨a, ha⟩ := a
    have h4 : ¬ a < 3 := h3
    interval_cases a <;> first | rfl | omega

/-- The third block: the features of the batch's keys. -/
theorem b2 (ht : t.val < 64) (f : Fin 64) (k : Fin 1024) :
    (iblk m c 2 t (ix3 0 f k) : EReal) = (m ((c : Thread nD τ).loc main_arg1) (ix3 (bt t ht) f k) : EReal) := by
  have e := idx2 t ht
  have h : (iblk m c 2 t (ix3 0 f k) : EReal) = V m c main_v8 (ix3 (bt t ht) f k) := by
    unfold iblk
    blk_ext [e, bt, nt]
  rw [h]
  entry_read
  rfl

/-- The fourth block: the features of the tile's points. -/
theorem b3 (ht : t.val < 64) (f : Fin 64) (p : Fin 2048) :
    (iblk m c 3 t (ix3 0 f p) : EReal) = (m ((c : Thread nD τ).loc main_arg3) (ix3 (bt t ht) f (nt t p)) : EReal) := by
  have e := idx3 t ht
  have h : (iblk m c 3 t (ix3 0 f p) : EReal) = V m c main_arg3 (ix3 (bt t ht) f (nt t p)) := by
    unfold iblk
    blk_ext [e, bt, nt]
  rw [h, V_main_arg3]

/-- The fifth block: the first layer's matrix. -/
theorem b4 (o q : Fin 128) : (iblk m c 4 t (ix2 o q) : EReal) = (m ((c : Thread nD τ).loc main_arg4) (ix2 o q) : EReal) := by
  have e := idx4 t
  have h : (iblk m c 4 t (ix2 o q) : EReal) = V m c main_arg4 (ix2 o q) := by
    unfold iblk
    blk_ext [e]
  rw [h, V_main_arg4]

/-- The sixth block: the second layer's matrix. -/
theorem b5 (o q : Fin 128) : (iblk m c 5 t (ix2 o q) : EReal) = (m ((c : Thread nD τ).loc main_arg6) (ix2 o q) : EReal) := by
  have e := idx5 t
  have h : (iblk m c 5 t (ix2 o q) : EReal) = V m c main_arg6 (ix2 o q) := by
    unfold iblk
    blk_ext [e]
  rw [h, V_main_arg6]

end Cert.KernelIdeal.Blocks

end
-- ==== Proof.KVal.lean ====
/-
  What the scratch buffers hold after each phase, as real numbers, and the result array.
-/
module

public import proofs.«01_k».proof.Proof.Blocks

@[expose] public section

noncomputable section

namespace Cert.KernelIdeal.KVal

open Idealize.ShloMosaic Idealize.ShloMosaic.TcCoe
open Cert.KernelIdeal Cert.KernelIdeal.Gen Cert.KernelIdeal.Body Cert.KernelIdeal.Track Cert.Scalars Cert.Spec

/-! ## Columns of the stored product -/

/-- The batch of column `c`. -/
def bN (c : ℕ) : Fin 8 := ⟨c / 16384 % 8, by omega⟩
/-- The point of column `c` in its batch. -/
def nN (c : ℕ) : Fin 16384 := ⟨c % 16384, by omega⟩

/-- A sum over the first columns, batch by batch. -/
theorem sum_batches (g : ℕ → ℝ) (a : ℕ) :
    ∑ c ∈ Finset.range (a * 16384), g c = ∑ b ∈ Finset.range a, ∑ n ∈ Finset.range 16384, g (b * 16384 + n) := by
  induction a with
  | zero => simp
  | succ a ih => rw [Nat.succ_mul, Finset.sum_range_add, ih, Finset.sum_range_succ (fun b => ∑ n ∈ Finset.range 16384, g (b * 16384 + n)) a]

/-- A sum over all columns is a sum over batches and points. -/
theorem sum_columns (h : Fin 8 → Fin 16384 → ℝ) :
    ∑ c ∈ Finset.range 131072, h (bN c) (nN c) = ∑ b, ∑ n, h b n := by
  rw [show (131072 : ℕ) = 8 * 16384 from rfl, sum_batches, Finset.sum_range]
  refine Finset.sum_congr rfl fun b _ => ?_
  rw [Finset.sum_range]
  refine Finset.sum_congr rfl fun n _ => ?_
  congr 1
  · congr 1
    refine Fin.ext ?_
    show (b.val * 16384 + n.val) / 16384 % 8 = b.val
    omega
  · refine Fin.ext ?_
    show (b.val * 16384 + n.val) % 16384 = n.val
    omega

/-- One more tile of a sum over the first columns. -/
theorem sum_tile (g : ℕ → ℝ) (k w : ℕ) :
    ∑ c ∈ Finset.range (k + w), g c = (∑ c ∈ Finset.range k, g c) + ∑ p : Fin w, g (k + p.val) := by
  rw [Finset.sum_range_add, ← Finset.sum_range fun p => g (k + p)]

/-! ## Reading the scratch at coordinates -/

/-- A column inside the overwritten box. -/
theorem put_in {α : Type} {N C : ℕ} (d : ℕ) (off : Fin 2 → ℕ) (hoff : off = ![0, d]) (w : Shape.Idx ⟨2, ![128, C]⟩ → α) (Y : Shape.Idx ⟨2, ![128, N]⟩ → α) (o : Fin 128)
    (c : Fin N) (h0 : d ≤ c.val) (h1 : c.val < d + C) :
    putAt (s := ⟨2, ![128, N]⟩) off (Shape.size ⟨2, ![128, C]⟩) w Y (ix2 o c) = w (ix2 o ⟨c.val - d, by omega⟩) := by
  subst hoff
  unfold putAt
  rw [dif_pos]
  · congr 1
    funext a
    fin_cases a
    · exact Fin.ext (Nat.sub_zero _)
    · exact Fin.ext rfl
  · intro a
    fin_cases a
    · exact ⟨Nat.zero_le _, by show o.val < 0 + 128; omega⟩
    · exact ⟨h0, h1⟩

/-- A column outside the overwritten box. -/
theorem put_out {α : Type} {N C : ℕ} (d : ℕ) (off : Fin 2 → ℕ) (hoff : off = ![0, d]) (w : Shape.Idx ⟨2, ![128, C]⟩ → α) (Y : Shape.Idx ⟨2, ![128, N]⟩ → α) (o : Fin 128)
    (c : Fin N) (h : c.val < d ∨ d + C ≤ c.val) :
    putAt (s := ⟨2, ![128, N]⟩) off (Shape.size ⟨2, ![128, C]⟩) w Y (ix2 o c) = Y (ix2 o c) := by
  subst hoff
  unfold putAt
  rw [dif_neg]
  intro hh
  have h1 : d ≤ c.val ∧ c.val < d + C := hh 1
  omega

/-- The first running sum of a pair. -/
theorem col0_apply (S : Vec Ideal S128x2 .f32) (o : Fin 128) : (col0 S (ix2 o 0) : EReal) = S (ix2 o 0) := by
  unfold col0
  pointwise []
/-- The second running sum of a pair. -/
theorem col1_apply (S : Vec Ideal S128x2 .f32) (o : Fin 128) : (col1 S (ix2 o 0) : EReal) = S (ix2 o 1) := by
  unfold col1
  pointwise []

/-- A tile of stored columns, read in the second phase. -/
theorem tile2_apply (t : Fin cfg0.N) (h : k0_cond3 (grid0.coords t) = 1#1) (h64 : 64 ≤ t.val) (h80 : t.val < 80) (Y : Vec Ideal S128x131072 .bf16) (o : Fin 128)
    (j : Fin 8192) : (tile2 (grid0.coords t) h Y (ix2 o j) : EReal) = Y (ix2 o ⟨8192 * (t.val - 64) + j.val, by omega⟩) := by
  show Y _ = Y _
  congr 1
  funext a
  refine Fin.ext ?_
  refine (congrArg (· + 1 * (ix2 o j a).val) (congrFun (off2 t h64) a)).trans ?_
  fin_cases a
  · show 0 + 1 * o.val = o.val
    omega
  · show 8192 * (t.val - 64) + 1 * j.val = 8192 * (t.val - 64) + j.val
    omega

/-- A tile of stored columns, read in the third phase. -/
theorem tile3_apply (t : Fin cfg0.N) (h : k0_cond4 (grid0.coords t) = 1#1) (h80 : 80 ≤ t.val) (h96 : t.val < 96) (Y : Vec Ideal S128x131072 .bf16) (o : Fin 128)
    (j : Fin 8192) : (tile3 (grid0.coords t) h Y (ix2 o j) : EReal) = Y (ix2 o ⟨8192 * (t.val - 80) + j.val, by omega⟩) := by
  show Y _ = Y _
  congr 1
  funext a
  refine Fin.ext ?_
  refine (congrArg (· + 1 * (ix2 o j a).val) (congrFun (off3 t h80) a)).trans ?_
  fin_cases a
  · show 0 + 1 * o.val = o.val
    omega
  · show 8192 * (t.val - 80) + 1 * j.val = 8192 * (t.val - 80) + j.val
    omega

/-! ## The phases -/

variable (m : (ℓ : Loc nD τ sig) → Buf (Elt Ideal) ℓ) (c : Dev nD)

/-- The argument arrays hold real numbers. -/
structure Args (K : Fin 8 → Fin 3 → Fin 1024 → ℝ) (Fe : Fin 8 → Fin 64 → Fin 1024 → ℝ) (X : Fin 8 → Fin 3 → Fin 16384 → ℝ)
    (G : Fin 8 → Fin 64 → Fin 16384 → ℝ) (W1 W2 : Fin 128 → Fin 128 → ℝ) : Prop where
  a0 : ∀ b a k, (m ((c : Thread nD τ).loc main_arg0) (ix3 b a k) : EReal) = ((K b a k : ℝ) : EReal)
  a1 : ∀ b f k, (m ((c : Thread nD τ).loc main_arg1) (ix3 b f k) : EReal) = ((Fe b f k : ℝ) : EReal)
  a2 : ∀ b a n, (m ((c : Thread nD τ).loc main_arg2) (ix3 b a n) : EReal) = ((X b a n : ℝ) : EReal)
  a3 : ∀ b f n, (m ((c : Thread nD τ).loc main_arg3) (ix3 b f n) : EReal) = ((G b f n : ℝ) : EReal)
  a4 : ∀ o q, (m ((c : Thread nD τ).loc main_arg4) (ix2 o q) : EReal) = ((W1 o q : ℝ) : EReal)
  a6 : ∀ o q, (m ((c : Thread nD τ).loc main_arg6) (ix2 o q) : EReal) = ((W2 o q : ℝ) : EReal)

variable {m c}
variable {K : Fin 8 → Fin 3 → Fin 1024 → ℝ} {Fe : Fin 8 → Fin 64 → Fin 1024 → ℝ} {X : Fin 8 → Fin 3 → Fin 16384 → ℝ}
  {G : Fin 8 → Fin 64 → Fin 16384 → ℝ} {W1 W2 : Fin 128 → Fin 128 → ℝ}

/-- A tile of the first layer, by columns. -/
theorem tile1_col (A : Args m c K Fe X G W1 W2) (hA : Apart K X) (t : Fin cfg0.N) (ht : t.val < 64) (o : Fin 128) (p : Fin 2048) :
    (y1f (iblk m c 0 t) (iblk m c 1 t) (iblk m c 2 t) (iblk m c 3 t) (iblk m c 4 t) (ix2 o p) : EReal)
      = ((y1 K Fe X G W1 (near K X) (bN (2048 * t.val + p.val)) (nN (2048 * t.val + p.val)) o : ℝ) : EReal) := by
  have hb : bN (2048 * t.val + p.val) = Blocks.bt t ht := by
    refine Fin.ext ?_
    show (2048 * t.val + p.val) / 16384 % 8 = t.val / 8
    omega
  have hn : nN (2048 * t.val + p.val) = Blocks.nt t p := by
    refine Fin.ext ?_
    show (2048 * t.val + p.val) % 16384 = t.val % 8 * 2048 + p.val
    omega
  rw [hb, hn]
  exact KPay.tile1 hA ⟨fun a => Blocks.b0 m c t A.a2 ht a p, fun k a => Blocks.b1 m c t A.a0 ht k a⟩
    (fun f k => (Blocks.b2 m c t ht f k).trans (A.a1 _ _ _)) (fun f => (Blocks.b3 m c t ht f p).trans (A.a3 _ _ _))
    (fun o q => (Blocks.b4 m c t o q).trans (A.a4 _ _)) o

/-- Before point `n` of the first phase: the columns stored so far are the first layer's, and the running sums are over
    those columns. -/
structure First (Z : Cols) (n : ℕ) (σ : St Ideal) : Prop where
  y : ∀ (o : Fin 128) (j : Fin 131072), j.val < 2048 * n → (σ.Y (ix2 o j) : EReal) = ((Z (bN j.val) (nN j.val) o : ℝ) : EReal)
  s0 : ∀ o : Fin 128, (σ.S (ix2 o 0) : EReal) = ((∑ j ∈ Finset.range (2048 * n), Z (bN j) (nN j) o : ℝ) : EReal)
  s1 : ∀ o : Fin 128, (σ.S (ix2 o 1) : EReal)
    = ((∑ j ∈ Finset.range (2048 * n), Z (bN j) (nN j) o * Z (bN j) (nN j) o : ℝ) : EReal)
  t0 : σ.T = k0_pay2 (F := Ideal)

/-- The first phase, by induction on the point. -/
theorem first (A : Args m c K Fe X G W1 W2) (hA : Apart K X) : ∀ n, n ≤ 64 → First (y1 K Fe X G W1 (near K X)) n (st m c n)
  | 0, _ => by
    refine ⟨fun o j h => absurd h (by omega), fun o => ?_, fun o => ?_, rfl⟩
    · simp only [Nat.mul_zero, Finset.range_zero, Finset.sum_empty]
      exact KPay.zero1 o 0
    · simp only [Nat.mul_zero, Finset.range_zero, Finset.sum_empty]
      exact KPay.zero1 o 1
  | n + 1, hn => by
    have ih := first A hA n (by omega)
    have hN : n < cfg0.N := by rw [N96]; omega
    have hst : st m c (n + 1) = step m c ⟨n, hN⟩ (st m c n) := st_succ m c ⟨n, hN⟩
    have hS : (if n = 0 then k0_pay1 (F := Ideal) else (st m c n).S) = (st m c n).S := by
      split
      · rename_i h0
        subst h0
        rfl
      · rfl
    have hT : (if n = 0 then k0_pay2 (F := Ideal) else (st m c n).T) = k0_pay2 (F := Ideal) := by
      split
      · rfl
      · exact ih.t0
    have ht : (⟨n, hN⟩ : Fin cfg0.N).val < 64 := by show n < 64; omega
    rw [hst]
    unfold step
    rw [if_pos ((hcond2 ⟨n, hN⟩).mpr ht)]
    refine ⟨fun o j hj => ?_, fun o => ?_, fun o => ?_, hT⟩
    · by_cases h : 2048 * n ≤ j.val
      · refine (put_in (2048 * n) _ (off1 ⟨n, hN⟩) _ _ o j h (by omega)).trans ?_
        rw [KPay.tile1_stored]
        refine (tile1_col A hA ⟨n, hN⟩ ht o _).trans ?_
        show ((y1 K Fe X G W1 (near K X) (bN (2048 * n + (j.val - 2048 * n))) (nN (2048 * n + (j.val - 2048 * n))) o : ℝ) : EReal) = _
        rw [Nat.add_sub_cancel' h]
      · exact (put_out (2048 * n) _ (off1 ⟨n, hN⟩) _ _ o j (Or.inl (by omega))).trans (ih.y o j (by omega))
    · show (s1n _ _ _ _ _ (if n = 0 then k0_pay1 (F := Ideal) else (st m c n).S) (ix2 o 0) : EReal) = _
      rw [hS, (KPay.sums1 _ _ _ _ o).1, ih.s0]
      simp only [tile1_col A hA ⟨n, hN⟩ ht]
      rw [coe_sum, ← EReal.coe_add, Nat.mul_succ, sum_tile]
    · show (s1n _ _ _ _ _ (if n = 0 then k0_pay1 (F := Ideal) else (st m c n).S) (ix2 o 1) : EReal) = _
      rw [hS, (KPay.sums1 _ _ _ _ o).2, ih.s1]
      simp only [tile1_col A hA ⟨n, hN⟩ ht, ← EReal.coe_mul]
      rw [coe_sum, ← EReal.coe_add, Nat.mul_succ, sum_tile]

/-- Before the point `n` places into the second phase: the columns met so far hold the second layer, the others still the
    first, and the second pair of running sums is over the columns met. -/
structure Second (Z Z2 : Cols) (n : ℕ) (σ : St Ideal) : Prop where
  y2 : ∀ (o : Fin 128) (j : Fin 131072), j.val < 8192 * n → (σ.Y (ix2 o j) : EReal) = ((Z2 (bN j.val) (nN j.val) o : ℝ) : EReal)
  y : ∀ (o : Fin 128) (j : Fin 131072), 8192 * n ≤ j.val → (σ.Y (ix2 o j) : EReal) = ((Z (bN j.val) (nN j.val) o : ℝ) : EReal)
  s0 : ∀ o : Fin 128, (σ.S (ix2 o 0) : EReal) = ((∑ b, ∑ n, Z b n o : ℝ) : EReal)
  s1 : ∀ o : Fin 128, (σ.S (ix2 o 1) : EReal) = ((∑ b, ∑ n, Z b n o * Z b n o : ℝ) : EReal)
  t0 : ∀ o : Fin 128, (σ.T (ix2 o 0) : EReal) = ((∑ j ∈ Finset.range (8192 * n), Z2 (bN j) (nN j) o : ℝ) : EReal)
  t1 : ∀ o : Fin 128, (σ.T (ix2 o 1) : EReal)
    = ((∑ j ∈ Finset.range (8192 * n), Z2 (bN j) (nN j) o * Z2 (bN j) (nN j) o : ℝ) : EReal)

/-- The second phase, by induction on the point. -/
theorem second (A : Args m c K Fe X G W1 W2) (hA : Apart K X) :
    ∀ n, n ≤ 16 → Second (y1 K Fe X G W1 (near K X)) (y2 K Fe X G W1 W2 (near K X)) n (st m c (64 + n))
  | 0, _ => by
    have h := first A hA 64 (le_refl _)
    refine ⟨fun o j hj => absurd hj (by omega), fun o j _ => h.y o j j.isLt, fun o => (h.s0 o).trans ?_,
      fun o => (h.s1 o).trans ?_, fun o => ?_, fun o => ?_⟩
    · rw [← sum_columns]
    · rw [← sum_columns fun b n => y1 K Fe X G W1 (near K X) b n o * y1 K Fe X G W1 (near K X) b n o]
    · simp only [Nat.mul_zero, Finset.range_zero, Finset.sum_empty]
      exact (congrArg (fun T : Vec Ideal S128x2 .f32 => (T (ix2 o 0) : EReal)) h.t0).trans (KPay.zero2 o 0)
    · simp only [Nat.mul_zero, Finset.range_zero, Finset.sum_empty]
      exact (congrArg (fun T : Vec Ideal S128x2 .f32 => (T (ix2 o 1) : EReal)) h.t0).trans (KPay.zero2 o 1)
  | n + 1, hn => by
    have ih := second A hA n (by omega)
    have hN : 64 + n < cfg0.N := by rw [N96]; omega
    have hst : st m c (64 + (n + 1)) = step m c ⟨64 + n, hN⟩ (st m c (64 + n)) := st_succ m c ⟨64 + n, hN⟩
    have h2 : ¬ k0_cond2 (grid0.coords ⟨64 + n, hN⟩) = 1#1 := fun h => absurd ((hcond2 ⟨64 + n, hN⟩).mp h) (by show ¬ 64 + n < 64; omega)
    have h3 : k0_cond3 (grid0.coords ⟨64 + n, hN⟩) = 1#1 := (hcond3 ⟨64 + n, hN⟩).mpr ⟨Nat.le_add_right _ _, by show 64 + n < 80; omega⟩
    have hoff : k0_off2 (grid0.coords ⟨64 + n, hN⟩) = ![0, 8192 * n] := by
      rw [off2 ⟨64 + n, hN⟩ (Nat.le_add_right _ _)]
      show ![0, 8192 * (64 + n - 64)] = _
      rw [Nat.add_sub_cancel_left]
    have hv : ∀ (o : Fin 128) (j : Fin 8192), (k0_pay64 (Body.tile2 _ h3 (st m c (64 + n)).Y) (col0 (st m c (64 + n)).S) (col1 (st m c (64 + n)).S)
        (iblk m c 5 ⟨64 + n, hN⟩) (ix2 o j) : EReal)
        = ((y2 K Fe X G W1 W2 (near K X) (bN (8192 * n + j.val)) (nN (8192 * n + j.val)) o : ℝ) : EReal) := by
      intro o j
      refine KPay.tile2 (y1 K Fe X G W1 (near K X)) (fun x => ?_) (fun x => (col0_apply _ x).trans (ih.s0 x))
        (fun x => (col1_apply _ x).trans (ih.s1 x)) (fun o q => (Blocks.b5 m c _ o q).trans (A.a6 o q)) o
      refine (tile2_apply ⟨64 + n, hN⟩ h3 (Nat.le_add_right _ _) (by show 64 + n < 80; omega) _ x j).trans ?_
      refine (ih.y x _ (by show 8192 * n ≤ 8192 * (64 + n - 64) + j.val; omega)).trans ?_
      show ((y1 K Fe X G W1 (near K X) (bN (8192 * (64 + n - 64) + j.val)) (nN (8192 * (64 + n - 64) + j.val)) x : ℝ) : EReal) = _
      rw [Nat.add_sub_cancel_left]
    rw [hst]
    unfold step
    rw [if_neg h2, dif_pos h3]
    refine ⟨fun o j hj => ?_, fun o j hj => ?_, ih.s0, ih.s1, fun o => ?_, fun o => ?_⟩
    · by_cases h : 8192 * n ≤ j.val
      · refine (put_in (8192 * n) _ hoff _ _ o j h (by omega)).trans ?_
        rw [KPay.tile2_stored]
        refine (hv o _).trans ?_
        show ((y2 K Fe X G W1 W2 (near K X) (bN (8192 * n + (j.val - 8192 * n))) (nN (8192 * n + (j.val - 8192 * n))) o : ℝ) : EReal) = _
        rw [Nat.add_sub_cancel' h]
      · exact (put_out (8192 * n) _ hoff _ _ o j (Or.inl (by omega))).trans (ih.y2 o j (by omega))
    · exact (put_out (8192 * n) _ hoff _ _ o j (Or.inr (by omega))).trans (ih.y o j (by omega))
    · refine (KPay.sums2 _ _ _ _ _ o).1.trans ?_
      rw [ih.t0]
      simp only [hv]
      rw [coe_sum, ← EReal.coe_add, Nat.mul_succ, sum_tile]
    · refine (KPay.sums2 _ _ _ _ _ o).2.trans ?_
      rw [ih.t1]
      simp only [hv, ← EReal.coe_mul]
      rw [coe_sum, ← EReal.coe_add, Nat.mul_succ, sum_tile]

/-- The third phase leaves the scratch as it is. -/
theorem st_third : ∀ n, st m c (80 + n) = st m c 80
  | 0 => rfl
  | n + 1 => by
    by_cases hN : 80 + n < cfg0.N
    · have hst : st m c (80 + (n + 1)) = step m c ⟨80 + n, hN⟩ (st m c (80 + n)) := st_succ m c ⟨80 + n, hN⟩
      rw [hst]
      unfold step
      rw [if_neg fun h => absurd ((hcond2 ⟨80 + n, hN⟩).mp h) (by show ¬ 80 + n < 64; omega),
        dif_neg fun h => absurd ((hcond3 ⟨80 + n, hN⟩).mp h).2 (by show ¬ 80 + n < 80; omega)]
      exact st_third n
    · show (if h : 80 + n < cfg0.N then step m c ⟨80 + n, h⟩ (st m c (80 + n)) else st m c (80 + n)) = _
      rw [dif_neg hN]
      exact st_third n

/-- The result array, element by element. -/
def resultArr (K : Fin 8 → Fin 3 → Fin 1024 → ℝ) (Fe : Fin 8 → Fin 64 → Fin 1024 → ℝ) (X : Fin 8 → Fin 3 → Fin 16384 → ℝ)
    (G : Fin 8 → Fin 64 → Fin 16384 → ℝ) (W1 W2 : Fin 128 → Fin 128 → ℝ) : Vec Ideal S8x128x16384 .f32 :=
  fun i => ((out K Fe X G W1 W2 (near K X) (i 0) (i 2) (i 1) : ℝ) : EReal)

/-- An output block, at coordinates. -/
theorem outAt_val (A : Args m c K Fe X G W1 W2) (hA : Apart K X) (t : Fin cfg0.N) (h80 : 80 ≤ t.val) (o : Fin 128) (j : Fin 8192) :
    (outAt t (st m c t.val) (ix3 0 o j) : EReal)
      = ((out K Fe X G W1 W2 (near K X) (bN (8192 * (t.val - 80) + j.val)) (nN (8192 * (t.val - 80) + j.val)) o : ℝ) : EReal) := by
  have h4 := (hcond4 t).mpr h80
  have h96 : t.val < 96 := lt_of_lt_of_eq t.isLt N96
  have hs := second A hA 16 (le_refl _)
  have he : st m c t.val = st m c (64 + 16) := by
    have := st_third (m := m) (c := c) (t.val - 80)
    rwa [Nat.add_sub_cancel' h80] at this
  rw [he]
  unfold outAt
  rw [dif_pos h4]
  refine KPay.tile3 (y2 K Fe X G W1 W2 (near K X)) (fun x => ?_) (fun x => ((col0_apply _ x).trans (hs.t0 x)).trans ?_)
    (fun x => ((col1_apply _ x).trans (hs.t1 x)).trans ?_) o
  · exact (tile3_apply t h4 h80 h96 _ x j).trans (hs.y2 x _ (by show 8192 * (t.val - 80) + j.val < 8192 * 16; omega))
  · rw [← sum_columns]
  · rw [← sum_columns fun b n => y2 K Fe X G W1 W2 (near K X) b n x * y2 K Fe X G W1 W2 (near K X) b n x]

/-- The output array after the run. -/
theorem final (A : Args m c K Fe X G W1 W2) (hA : Apart K X) : (dats m 0 c).arrAt 6 cfg0.N = resultArr K Fe X G W1 W2 := by
  refine (dats m 0 c).arrAt_eq_of_covers 6 _ (by decide +kernel) fun t hf y => ?_
  have h80 := (flush6 t).mp hf
  have e := Blocks.idx6 t h80
  blk_simp
  rw [after_6]
  have hy : y = ix3 0 (y 1) (y 2) := by
    funext a
    fin_cases a
    · exact Subsingleton.elim (α := Fin 1) _ _
    · rfl
    · rfl
  have h1 : (y 1).val < 128 := (y 1).isLt
  have h2 : (y 2).val < 8192 := (y 2).isLt
  have h0 : (y 0).val < 1 := (y 0).isLt
  have h96 : t.val < 96 := lt_of_lt_of_eq t.isLt N96
  have g0 : (win0_6.blk t).view.emb y 0 = bN (8192 * (t.val - 80) + (y 2).val) := by
    refine Fin.ext ?_
    blk_simp [e]
    show (t.val - 80) / 2 = (8192 * (t.val - 80) + (y 2).val) / 16384 % 8
    omega
  have g1 : (win0_6.blk t).view.emb y 1 = y 1 := by
    refine Fin.ext ?_
    blk_simp [e]
  have g2 : (win0_6.blk t).view.emb y 2 = nN (8192 * (t.val - 80) + (y 2).val) := by
    refine Fin.ext ?_
    blk_simp [e]
    show (t.val - 80) % 2 * 8192 + (y 2).val = (8192 * (t.val - 80) + (y 2).val) % 16384
    omega
  show (outAt t (st m c t.val) y : EReal) = ((out K Fe X G W1 W2 (near K X) ((win0_6.blk t).view.emb y 0) ((win0_6.blk t).view.emb y 2) ((win0_6.blk t).view.emb y 1) : ℝ) : EReal)
  rw [g0, g1, g2]
  refine (congrArg (outAt t (st m c t.val)) hy).trans ?_
  exact outAt_val A hA t h80 (y 1) (y 2)

end Cert.KernelIdeal.KVal

end
-- ==== Proof.RVal.lean ====
/-
  The comparison's intermediate tables, read at an index: over real arguments each is the table of the real-number
  description.
-/
module

public import proofs.«01_k».proof.Proof.Gen.ReferenceIdeal.Run
public import proofs.«01_k».proof.Proof.Spec
public import proofs.«01_k».proof.Proof.Pick
public import Idealize.ShloMosaic.Lib.Pointwise

@[expose] public section

noncomputable section

namespace Cert.ReferenceIdeal.RVal

open Idealize.ShloMosaic Idealize.ShloMosaic.TcCoe
open Cert.ReferenceIdeal Cert.ReferenceIdeal.Gen Cert.ReferenceIdeal.Value Cert.Scalars Cert.Spec

/-- The arguments are these tables of real numbers. -/
structure Args (V0 : Valuation τ sig (Elt Ideal)) (K : Fin 8 → Fin 3 → Fin 1024 → ℝ) (Fe : Fin 8 → Fin 64 → Fin 1024 → ℝ)
    (X : Fin 8 → Fin 3 → Fin 16384 → ℝ) (G : Fin 8 → Fin 64 → Fin 16384 → ℝ) (W1 : Fin 128 → Fin 128 → ℝ)
    (B1 : Fin 128 → ℝ) (W2 : Fin 128 → Fin 128 → ℝ) (B2 : Fin 128 → ℝ) : Prop where
  a0 : ∀ b a m, V0 (Proc.devRef .tc main_arg0) (ix3 b a m) = ((K b a m : ℝ) : EReal)
  a1 : ∀ b a m, V0 (Proc.devRef .tc main_arg1) (ix3 b a m) = ((Fe b a m : ℝ) : EReal)
  a2 : ∀ b a m, V0 (Proc.devRef .tc main_arg2) (ix3 b a m) = ((X b a m : ℝ) : EReal)
  a3 : ∀ b a m, V0 (Proc.devRef .tc main_arg3) (ix3 b a m) = ((G b a m : ℝ) : EReal)
  a4 : ∀ a m, V0 (Proc.devRef .tc main_arg4) (ix2 a m) = ((W1 a m : ℝ) : EReal)
  a5 : ∀ a, V0 (Proc.devRef .tc main_arg5) (ix1 a) = ((B1 a : ℝ) : EReal)
  a6 : ∀ a m, V0 (Proc.devRef .tc main_arg6) (ix2 a m) = ((W2 a m : ℝ) : EReal)
  a7 : ∀ a, V0 (Proc.devRef .tc main_arg7) (ix1 a) = ((B2 a : ℝ) : EReal)

variable {V0 : Valuation τ sig (Elt Ideal)} {K : Fin 8 → Fin 3 → Fin 1024 → ℝ} {Fe : Fin 8 → Fin 64 → Fin 1024 → ℝ}
  {X : Fin 8 → Fin 3 → Fin 16384 → ℝ} {G : Fin 8 → Fin 64 → Fin 16384 → ℝ} {W1 : Fin 128 → Fin 128 → ℝ}
  {B1 : Fin 128 → ℝ} {W2 : Fin 128 → Fin 128 → ℝ} {B2 : Fin 128 → ℝ}

/-- The table that is sorted holds the negated squared distances. -/
theorem v15 (A : Args V0 K Fe X G W1 B1 W2 B2) : res_main_v15 V0 = negDist K X := by
  funext i
  obtain ⟨b, n, m, rfl⟩ : ∃ b n m, i = ix3 (n0 := 8) (n1 := 16384) (n2 := 1024) b n m :=
    ⟨i 0, i 1, i 2, by funext a; match a with | ⟨0, _⟩ => rfl | ⟨1, _⟩ => rfl | ⟨2, _⟩ => rfl⟩
  show (res_main_v15 V0 (ix3 b n m) : EReal) = ((-dist K X b n m : ℝ) : EReal)
  pointwise [res_main_v15, res_main_v0, res_main_v1]
  simp only [A.a0, A.a2, bits_two, ← EReal.coe_mul, coe_sum, ← EReal.coe_sub, ← EReal.coe_add, ← EReal.coe_neg]
  rfl

/-- The positions of the three nearest keys, as words. -/
theorem indices (A : Args V0 K Fe X G W1 B1 W2 B2) (b : Fin 8) (n : Fin 16384) (k : Fin 3) :
    res_main_indices V0 (ix3 b n k) = BitVec.ofNat 32 (near K X b n k).val := by
  unfold res_main_indices
  rw [v15 A]
  exact Pick.topK_pos (negDist K X) _ b n k (by omega)

/-- The inverse distances of the three nearest keys. -/
theorem v19 (A : Args V0 K Fe X G W1 B1 W2 B2) (b : Fin 8) (n : Fin 16384) (k : Fin 3) :
    (res_main_v19 V0 (ix3 b n k) : EReal) = ((inv K X (near K X) b n k : ℝ) : EReal) := by
  pointwise [res_main_v19]
  rw [v15 A, Pick.topK_val (negDist K X) _ b n k (by omega)]
  show Ideal.div _ (max (Ideal.ofBits .f32 0x2EDBE6FF#32) (-((-dist K X b n (near K X b n k) : ℝ) : EReal))) = _
  rw [bits_least, ← EReal.coe_neg, neg_neg, coe_max, max_comm, ← EReal.coe_one,
    coe_div _ _ (lt_of_lt_of_le least_pos (le_max_right _ _)).ne']
  rfl

/-- The row a word names, when it is one of the 1024. -/
theorem word_row (w : BitVec 32) (r : Fin 1024) (hw : w = BitVec.ofNat 32 r.val) :
    (Scalar.select (IntOp.cmpi CmpIPredicate.slt w 0#32) (IntOp.addi w 1024#32) w).toInt.toNat = r.val := by
  subst hw
  revert r
  decide +kernel

/-- The features that are interpolated are those of the three nearest keys. -/
theorem rows (A : Args V0 K Fe X G W1 B1 W2 B2) (b : Fin 8) (n : Fin 16384) (k : Fin 3) (f : Fin 64) :
    (Host.gather gather_S8x1024x64_S8x16384x3x1_S8x16384x3x64_3_1_0_0_1_3_1164
      (transpose S8x1024x64 [0, 2, 1] (V0 (Proc.devRef .tc main_arg1)) transposes_S8x64x1024_S8x1024x64_0_2_1)
      (broadcastInDim S8x16384x3x1 ![0, 1, 2] bcast_S8x16384x3_S8x16384x3x1_0_1_2
        (select (cmpi CmpIPredicate.slt (res_main_indices V0)
            (broadcastInDim S8x16384x3 ![] bcast_S_S8x16384x3 (constantI S_ 32 0#32)))
          (addi (res_main_indices V0)
            (broadcastInDim S8x16384x3 ![] bcast_S_S8x16384x3 (constantI S_ 32 1024#32)))
          (res_main_indices V0))) (ix4 b n k f) : EReal) = ((Fe b f (near K X b n k) : ℝ) : EReal) := by
  refine (Pick.take_rows _ _ _ b n k f (near K X b n k) ?_).trans ?_
  · pointwise []
    exact word_row _ _ (indices A b n k)
  · pointwise []
    exact A.a1 _ _ _

/-- The first layer before normalisation. -/
theorem v42 (A : Args V0 K Fe X G W1 B1 W2 B2) (b : Fin 8) (o : Fin 128) (n : Fin 16384) :
    (res_main_v42 V0 (ix3 b o n) : EReal) = ((y1 K Fe X G W1 (near K X) b n o + B1 o : ℝ) : EReal) := by
  have hs : (∑ k : Fin 3, inv K X (near K X) b n k) ≠ 0 :=
    (Finset.sum_pos (fun k _ => inv_pos K X (near K X) b n k) Finset.univ_nonempty).ne'
  pointwise [res_main_v42]
  simp only [rows A, v19 A, A.a3, A.a4, A.a5, coe_sum, coe_div _ _ hs, ← EReal.coe_mul, ← EReal.coe_add]
  rfl

/-- The mean of a row, as the comparison computes it. -/
theorem mean_of (v : FVec Ideal S8x128x16384 .f32) (y : Cols)
    (h : ∀ b o n, (v (ix3 b o n) : EReal) = ((y b n o : ℝ) : EReal)) (o : Fin 128) :
    Ideal.div (Ideal.hostReduceAdd reducesTo_S8x128x16384_S128_d0_2 v 0 (ix1 o)) (Ideal.ofBits .f32 0x48000000#32)
      = ((mean y o : ℝ) : EReal) := by
  rw [Pick.sum_ends, zero_add, bits_count]
  simp only [h, coe_sum]
  exact coe_div _ _ (by norm_num)

/-- The mean of the first layer's rows. -/
theorem v46 (A : Args V0 K Fe X G W1 B1 W2 B2) (o : Fin 128) : (res_main_v46 V0 (ix3 0 o 0) : EReal)
    = ((mean (fun b n o => y1 K Fe X G W1 (near K X) b n o + B1 o) o : ℝ) : EReal) := by
  pointwise [res_main_v46]
  exact mean_of _ _ (v42 A) o

/-- The variance of a row, as the comparison computes it. -/
theorem var_of (v : FVec Ideal S8x128x16384 .f32) (w : FVec Ideal S1x128x1 .f32) (y : Cols)
    (h : ∀ b o n, (v (ix3 b o n) : EReal) = ((y b n o : ℝ) : EReal))
    (hw : ∀ o, (w (ix3 0 o 0) : EReal) = ((mean y o : ℝ) : EReal)) (o : Fin 128) :
    Ideal.div (Ideal.hostReduceAdd reducesTo_S8x128x16384_S128_d0_2
      (mulf (subf v (broadcastInDim S8x128x16384 ![0, 1, 2] bcast_S1x128x1_S8x128x16384_0_1_2 w))
        (subf v (broadcastInDim S8x128x16384 ![0, 1, 2] bcast_S1x128x1_S8x128x16384_0_1_2 w))) 0 (ix1 o))
      (Ideal.ofBits .f32 0x48000000#32) = ((var y o : ℝ) : EReal) := by
  rw [Pick.sum_ends, zero_add, bits_count]
  have hd : ∀ b n, (mulf (subf v (broadcastInDim S8x128x16384 ![0, 1, 2] bcast_S1x128x1_S8x128x16384_0_1_2 w))
        (subf v (broadcastInDim S8x128x16384 ![0, 1, 2] bcast_S1x128x1_S8x128x16384_0_1_2 w)) (ix3 b o n) : EReal)
      = (((y b n o - mean y o) * (y b n o - mean y o) : ℝ) : EReal) := by
    intro b n
    pointwise []
    rw [h, hw, ← EReal.coe_sub, ← EReal.coe_mul]
  simp only [hd, coe_sum]
  exact coe_div _ _ (by norm_num)

/-- The second layer before normalisation. -/
theorem v66 (A : Args V0 K Fe X G W1 B1 W2 B2) (b : Fin 8) (o : Fin 128) (n : Fin 16384) :
    (res_main_v66 V0 (ix3 b o n) : EReal) = ((y2 K Fe X G W1 W2 (near K X) b n o + B2 o : ℝ) : EReal) := by
  pointwise [res_main_v66, res_main_v48]
  simp only [var_of _ _ _ (v42 A) (v46 A)]
  simp only [v42 A, v46 A]
  simp only [norm_ref (fun b n o => y1 K Fe X G W1 (near K X) b n o + B1 o), norm_shift, A.a6, A.a7, coe_sum,
    ← EReal.coe_mul, ← EReal.coe_add]
  rfl

/-- The mean of the second layer's rows. -/
theorem v70 (A : Args V0 K Fe X G W1 B1 W2 B2) (o : Fin 128) : (res_main_v70 V0 (ix3 0 o 0) : EReal)
    = ((mean (fun b n o => y2 K Fe X G W1 W2 (near K X) b n o + B2 o) o : ℝ) : EReal) := by
  pointwise [res_main_v70]
  exact mean_of _ _ (v66 A) o

/-- The comparison's result. -/
def result (V0 : Valuation τ sig (Elt Ideal)) : FVec Ideal S8x128x16384 .f32 :=
  maximumf (Host.divf (subf (res_main_v66 V0) (broadcastInDim S8x128x16384 ![0, 1, 2] bcast_S1x128x1_S8x128x16384_0_1_2
    (res_main_v70 V0))) (broadcastInDim S8x128x16384 ![0, 1, 2] bcast_S1x128x1_S8x128x16384_0_1_2 (Host.sqrt (addf
      (Host.divf (broadcastInDim S1x128x1 ![1] bcast_S128_S1x128x1_1 (Host.reduceAdd (mulf (res_main_v72 V0)
        (res_main_v72 V0)) (constant S_ .f32 0x00000000#32) reducesTo_S8x128x16384_S128_d0_2 h_S_))
        (broadcastInDim S1x128x1 ![] bcast_S_S1x128x1 (constant S_ .f32 0x48000000#32)))
      (broadcastInDim S1x128x1 ![] bcast_S_S1x128x1 (constant S_ .f32 0x3727C5AC#32))))))
    (broadcastInDim S8x128x16384 ![] bcast_S_S8x128x16384 (constant S_ .f32 0x00000000#32))

/-- The comparison's result, read at an index. -/
theorem result_eq (A : Args V0 K Fe X G W1 B1 W2 B2) (b : Fin 8) (o : Fin 128) (n : Fin 16384) :
    (result V0 (ix3 b o n) : EReal) = ((out K Fe X G W1 W2 (near K X) b n o : ℝ) : EReal) := by
  pointwise [result, res_main_v72]
  rw [var_of _ _ _ (v66 A) (v70 A), v66 A, v70 A]
  rw [norm_ref (fun b n o => y2 K Fe X G W1 W2 (near K X) b n o + B2 o), norm_shift]
  rfl

end Cert.ReferenceIdeal.RVal

end
-- ==== Proof.Pre.lean ====
/-
  What the precondition says of the arguments: every entry is a real number, and of every point's squared distances
  from the keys the third smallest is strictly below the fourth.
-/
module

public import proofs.«01_k».proof.Pre_finite_and_third_apart
public import proofs.«01_k».proof.Proof.Spec
public import proofs.«01_k».proof.Proof.Pick
public import Idealize.ShloMosaic.Lib.Pointwise

@[expose] public section

noncomputable section

namespace Cert.Pre

open Idealize.ShloMosaic Cert.Pre_finite_and_third_apart Cert.Scalars Cert.Spec

/-- The shape relations of the precondition's operations hold. -/
instance facts : Facts where
  transposes_S8x3x16384_S8x16384x3_0_2_1 := by decide
  transposes_S8x3x1024_S8x1024x3_0_2_1 := by decide
  reducesTo_S8x16384x3_S8x16384_d2 := by decide
  h_S_ := by decide
  bcast_S8x16384_S8x16384x1_0_1 := by decide
  bcast_S_S8x16384x1024 := by decide
  bcast_S8x16384x1_S8x16384x1024_0_1_2 := by decide
  reducesTo_S8x1024x3_S8x1024_d2 := by decide
  bcast_S8x1024_S8x1x1024_0_2 := by decide
  bcast_S8x1x1024_S8x16384x1024_0_1_2 := by decide
  sliceFits_S8x16384x1024_S8x16384x4 := by decide
  bcast_S_S8x3x1024 := by decide
  bcast_S_S8x64x1024 := by decide
  bcast_S_S8x3x16384 := by decide
  bcast_S_S8x64x16384 := by decide
  bcast_S_S128x128 := by decide
  bcast_S_S128 := by decide
  slices_S8x16384x4_S8x16384x1_0_0_2 := by decide
  shapeCasts_S8x16384x1_S8x16384 := by decide
  slices_S8x16384x4_S8x16384x1_0_0_3 := by decide
  dot_S8x16384x3_S8x1024x3_S8x16384x1024_2_2_1_1_0_0_wf := by decide

/-- A table all of whose entries are below infinity in absolute value holds real numbers. -/
theorem reals {s : Shape} (x : FVec Ideal s .f32) (h : S_.BroadcastsInDim s (![] : Fin 0 → Fin s.rank))
    (hx : cmpf .olt (Host.absf x) (broadcastInDim s ![] h (constant S_ .f32 0x7F800000#32)) = fun _ => 1#1) (i : s.Idx) :
    ∃ r : ℝ, (x i : EReal) = (r : EReal) := by
  have hi : Ideal.cmp .olt (max (x i : EReal) (-(x i : EReal))) (Ideal.ofBits .f32 0x7F800000#32) = 1#1 := congrFun hx i
  rw [bits_top] at hi
  refine real_of_abs_lt _ ?_
  by_contra hn
  simp [Ideal.cmp, hn] at hi

/-- The table of negated squared distances, as the precondition computes it. -/
def table (k : FVec Ideal S8x3x1024 .f32) (x : FVec Ideal S8x3x16384 .f32) : FVec Ideal S8x16384x1024 .f32 :=
  Host.negf (addf (subf (broadcastInDim S8x16384x1024 ![0, 1, 2] Facts.bcast_S8x16384x1_S8x16384x1024_0_1_2
    (broadcastInDim S8x16384x1 ![0, 1] Facts.bcast_S8x16384_S8x16384x1_0_1 (Host.reduceAdd
      (mulf (transpose S8x16384x3 [0, 2, 1] x Facts.transposes_S8x3x16384_S8x16384x3_0_2_1)
        (transpose S8x16384x3 [0, 2, 1] x Facts.transposes_S8x3x16384_S8x16384x3_0_2_1))
      (constant S_ .f32 0x00000000#32) Facts.reducesTo_S8x16384x3_S8x16384_d2 Facts.h_S_)))
    (mulf (broadcastInDim S8x16384x1024 ![] Facts.bcast_S_S8x16384x1024 (constant S_ .f32 0x40000000#32))
      (Host.dotGeneral dot_S8x16384x3_S8x1024x3_S8x16384x1024_2_2_1_1_0_0 none
        (transpose S8x16384x3 [0, 2, 1] x Facts.transposes_S8x3x16384_S8x16384x3_0_2_1)
        (transpose S8x1024x3 [0, 2, 1] k Facts.transposes_S8x3x1024_S8x1024x3_0_2_1))))
    (broadcastInDim S8x16384x1024 ![0, 1, 2] Facts.bcast_S8x1x1024_S8x16384x1024_0_1_2
      (broadcastInDim S8x1x1024 ![0, 2] Facts.bcast_S8x1024_S8x1x1024_0_2 (Host.reduceAdd
        (mulf (transpose S8x1024x3 [0, 2, 1] k Facts.transposes_S8x3x1024_S8x1024x3_0_2_1)
          (transpose S8x1024x3 [0, 2, 1] k Facts.transposes_S8x3x1024_S8x1024x3_0_2_1))
        (constant S_ .f32 0x00000000#32) Facts.reducesTo_S8x1024x3_S8x1024_d2 Facts.h_S_))))

/-- Over real arguments it is the table of the real-number description. -/
theorem table_eq (k : FVec Ideal S8x3x1024 .f32) (x : FVec Ideal S8x3x16384 .f32) (K : Fin 8 → Fin 3 → Fin 1024 → ℝ)
    (X : Fin 8 → Fin 3 → Fin 16384 → ℝ) (hk : ∀ b a m, (k (ix3 b a m) : EReal) = ((K b a m : ℝ) : EReal))
    (hx : ∀ b a m, (x (ix3 b a m) : EReal) = ((X b a m : ℝ) : EReal)) : table k x = negDist K X := by
  funext i
  obtain ⟨b, n, m, rfl⟩ : ∃ b n m, i = ix3 (n0 := 8) (n1 := 16384) (n2 := 1024) b n m :=
    ⟨i 0, i 1, i 2, by funext a; match a with | ⟨0, _⟩ => rfl | ⟨1, _⟩ => rfl | ⟨2, _⟩ => rfl⟩
  show (table k x (ix3 b n m) : EReal) = ((-dist K X b n m : ℝ) : EReal)
  pointwise [table]
  simp only [hk, hx, bits_two, ← EReal.coe_mul, coe_sum, ← EReal.coe_sub, ← EReal.coe_add, ← EReal.coe_neg]
  rfl

/-- The third smallest squared distance is strictly below the fourth: as the precondition says it. -/
theorem gap (k : FVec Ideal S8x3x1024 .f32) (x : FVec Ideal S8x3x16384 .f32) (K : Fin 8 → Fin 3 → Fin 1024 → ℝ)
    (X : Fin 8 → Fin 3 → Fin 16384 → ℝ) (hk : ∀ b a m, (k (ix3 b a m) : EReal) = ((K b a m : ℝ) : EReal))
    (hx : ∀ b a m, (x (ix3 b a m) : EReal) = ((X b a m : ℝ) : EReal))
    (h : cmpf (F := Ideal) (φ := .f32) .ogt
      (shapeCast S8x16384 ((extractStridedSlice S8x16384x1 ![0, 0, 2] · Facts.slices_S8x16384x4_S8x16384x1_0_0_2)
        (Host.topK S8x16384x4 2 (FloatOps.cmpfTotal (F := Ideal) (φ := .f32) .gt) (table k x)
          Facts.sliceFits_S8x16384x1024_S8x16384x4).1) Facts.shapeCasts_S8x16384x1_S8x16384)
      (shapeCast S8x16384 ((extractStridedSlice S8x16384x1 ![0, 0, 3] · Facts.slices_S8x16384x4_S8x16384x1_0_0_3)
        (Host.topK S8x16384x4 2 (FloatOps.cmpfTotal (F := Ideal) (φ := .f32) .gt) (table k x)
          Facts.sliceFits_S8x16384x1024_S8x16384x4).1) Facts.shapeCasts_S8x16384x1_S8x16384) = fun _ => 1#1)
    (b : Fin 8) (n : Fin 16384) :
    dist K X b n (Pick.rk (negDist K X) b n 2) < dist K X b n (Pick.rk (negDist K X) b n 3) := by
  rw [table_eq k x K X hk hx] at h
  have hi := congrFun h (ix2 b n)
  revert hi
  pointwise []
  rw [Pick.topK_val (negDist K X) _ b n 3 (by decide), Pick.topK_val (negDist K X) _ b n 2 (by decide)]
  intro hi
  have h2 : ((-dist K X b n (Pick.rk (negDist K X) b n 3) : ℝ) : EReal)
      < ((-dist K X b n (Pick.rk (negDist K X) b n 2) : ℝ) : EReal) := by
    by_contra hn
    have hd : decide ((negDist K X (ix3 b n (Pick.rk (negDist K X) b n 3)) : EReal)
      < negDist K X (ix3 b n (Pick.rk (negDist K X) b n 2))) = false := decide_eq_false hn
    change BitVec.ofBool (decide ((negDist K X (ix3 b n (Pick.rk (negDist K X) b n 3)) : EReal)
      < negDist K X (ix3 b n (Pick.rk (negDist K X) b n 2)))) = 1#1 at hi
    rw [hd] at hi
    exact absurd hi (by decide)
  exact neg_lt_neg_iff.mp (EReal.coe_lt_coe_iff.mp h2)

/-- The precondition, of eight tables. -/
def Holds (a0 : FVec Ideal S8x3x1024 .f32) (a1 : FVec Ideal S8x64x1024 .f32) (a2 : FVec Ideal S8x3x16384 .f32) (a3 : FVec Ideal S8x64x16384 .f32) (a4 : FVec Ideal S128x128 .f32) (a5 : FVec Ideal S128 .f32) (a6 : FVec Ideal S128x128 .f32) (a7 : FVec Ideal S128 .f32) : Prop :=
  (fn (F := Ideal) a0 a1 a2 a3 a4 a5 a6 a7).1 = (fun _ => 1#1)
    ∧ (fn (F := Ideal) a0 a1 a2 a3 a4 a5 a6 a7).2.1 = (fun _ => 1#1)
    ∧ (fn (F := Ideal) a0 a1 a2 a3 a4 a5 a6 a7).2.2.1 = (fun _ => 1#1)
    ∧ (fn (F := Ideal) a0 a1 a2 a3 a4 a5 a6 a7).2.2.2.1 = (fun _ => 1#1)
    ∧ (fn (F := Ideal) a0 a1 a2 a3 a4 a5 a6 a7).2.2.2.2.1 = (fun _ => 1#1)
    ∧ (fn (F := Ideal) a0 a1 a2 a3 a4 a5 a6 a7).2.2.2.2.2.1 = (fun _ => 1#1)
    ∧ (fn (F := Ideal) a0 a1 a2 a3 a4 a5 a6 a7).2.2.2.2.2.2.1 = (fun _ => 1#1)
    ∧ (fn (F := Ideal) a0 a1 a2 a3 a4 a5 a6 a7).2.2.2.2.2.2.2.1 = (fun _ => 1#1)
    ∧ (fn (F := Ideal) a0 a1 a2 a3 a4 a5 a6 a7).2.2.2.2.2.2.2.2 = (fun _ => 1#1)

/-- The precondition gives the tables of real numbers the arguments are, and the strict step after the third. -/
theorem read (a0 : FVec Ideal S8x3x1024 .f32) (a1 : FVec Ideal S8x64x1024 .f32) (a2 : FVec Ideal S8x3x16384 .f32) (a3 : FVec Ideal S8x64x16384 .f32) (a4 : FVec Ideal S128x128 .f32) (a5 : FVec Ideal S128 .f32) (a6 : FVec Ideal S128x128 .f32) (a7 : FVec Ideal S128 .f32)
    (h : Holds a0 a1 a2 a3 a4 a5 a6 a7) :
    ∃ (K : Fin 8 → Fin 3 → Fin 1024 → ℝ) (Fe : Fin 8 → Fin 64 → Fin 1024 → ℝ) (X : Fin 8 → Fin 3 → Fin 16384 → ℝ) (G : Fin 8 → Fin 64 → Fin 16384 → ℝ) (W1 : Fin 128 → Fin 128 → ℝ) (B1 : Fin 128 → ℝ) (W2 : Fin 128 → Fin 128 → ℝ) (B2 : Fin 128 → ℝ),
      (∀ b a m, (a0 (ix3 b a m) : EReal) = ((K b a m : ℝ) : EReal))
      ∧ (∀ b a m, (a1 (ix3 b a m) : EReal) = ((Fe b a m : ℝ) : EReal))
      ∧ (∀ b a m, (a2 (ix3 b a m) : EReal) = ((X b a m : ℝ) : EReal))
      ∧ (∀ b a m, (a3 (ix3 b a m) : EReal) = ((G b a m : ℝ) : EReal))
      ∧ (∀ a m, (a4 (ix2 a m) : EReal) = ((W1 a m : ℝ) : EReal))
      ∧ (∀ a, (a5 (ix1 a) : EReal) = ((B1 a : ℝ) : EReal))
      ∧ (∀ a m, (a6 (ix2 a m) : EReal) = ((W2 a m : ℝ) : EReal))
      ∧ (∀ a, (a7 (ix1 a) : EReal) = ((B2 a : ℝ) : EReal))
      ∧ ∀ b n, dist K X b n (Pick.rk (negDist K X) b n 2) < dist K X b n (Pick.rk (negDist K X) b n 3) := by
  have r0 := reals a0 _ (show cmpf .olt (Host.absf a0) (broadcastInDim S8x3x1024 ![] Facts.bcast_S_S8x3x1024 (constant S_ .f32 0x7F800000#32)) = (fun _ => 1#1) from h.2.1)
  choose f0 hf0 using r0
  have r1 := reals a1 _ (show cmpf .olt (Host.absf a1) (broadcastInDim S8x64x1024 ![] Facts.bcast_S_S8x64x1024 (constant S_ .f32 0x7F800000#32)) = (fun _ => 1#1) from h.2.2.1)
  choose f1 hf1 using r1
  have r2 := reals a2 _ (show cmpf .olt (Host.absf a2) (broadcastInDim S8x3x16384 ![] Facts.bcast_S_S8x3x16384 (constant S_ .f32 0x7F800000#32)) = (fun _ => 1#1) from h.2.2.2.1)
  choose f2 hf2 using r2
  have r3 := reals a3 _ (show cmpf .olt (Host.absf a3) (broadcastInDim S8x64x16384 ![] Facts.bcast_S_S8x64x16384 (constant S_ .f32 0x7F800000#32)) = (fun _ => 1#1) from h.2.2.2.2.1)
  choose f3 hf3 using r3
  have r4 := reals a4 _ (show cmpf .olt (Host.absf a4) (broadcastInDim S128x128 ![] Facts.bcast_S_S128x128 (constant S_ .f32 0x7F800000#32)) = (fun _ => 1#1) from h.2.2.2.2.2.1)
  choose f4 hf4 using r4
  have r5 := reals a5 _ (show cmpf .olt (Host.absf a5) (broadcastInDim S128 ![] Facts.bcast_S_S128 (constant S_ .f32 0x7F800000#32)) = (fun _ => 1#1) from h.2.2.2.2.2.2.1)
  choose f5 hf5 using r5
  have r6 := reals a6 _ (show cmpf .olt (Host.absf a6) (broadcastInDim S128x128 ![] Facts.bcast_S_S128x128 (constant S_ .f32 0x7F800000#32)) = (fun _ => 1#1) from h.2.2.2.2.2.2.2.1)
  choose f6 hf6 using r6
  have r7 := reals a7 _ (show cmpf .olt (Host.absf a7) (broadcastInDim S128 ![] Facts.bcast_S_S128 (constant S_ .f32 0x7F800000#32)) = (fun _ => 1#1) from h.2.2.2.2.2.2.2.2)
  choose f7 hf7 using r7
  exact ⟨fun b a m => f0 (ix3 b a m), fun b a m => f1 (ix3 b a m), fun b a m => f2 (ix3 b a m), fun b a m => f3 (ix3 b a m), fun a m => f4 (ix2 a m), fun a => f5 (ix1 a), fun a m => f6 (ix2 a m), fun a => f7 (ix1 a),
    fun b a m => hf0 _, fun b a m => hf1 _, fun b a m => hf2 _, fun b a m => hf3 _, fun a m => hf4 _, fun a => hf5 _, fun a m => hf6 _, fun a => hf7 _,
    gap a0 a2 _ _ (fun b a m => hf0 _) (fun b a m => hf2 _) h.1⟩

end Cert.Pre

end
-- ==== Proof.Algebra.lean ====
/-
  The kernel and the reference leave the same result array, from memories that agree on the arguments.
-/
module

public import proofs.«01_k».proof.Proof.Frames
public import proofs.«01_k».proof.Proof.KVal
public import proofs.«01_k».proof.Proof.RVal
public import proofs.«01_k».proof.Proof.Pre

@[expose] public section

noncomputable section

namespace Cert.Algebra

open Idealize.ShloMosaic Idealize.ShloMosaic.TcCoe Idealize.SL.Sem

/-- The kernel over the extended reals, under the precondition, leaves its arguments unchanged and every counter at zero. -/
theorem kernelIdeal_pre : Cert.quiescent_KernelIdeal_pre_finite_and_third_apart (hKernelIdeal := Cert.KernelIdeal.Gen.facts)
    (hPre_finite_and_third_apart := Cert.Pre.facts) := fun m ρ _ => Cert.Frames.kernelIdeal m ρ trivial

/-- The reference, under the precondition, leaves its arguments unchanged and every counter at zero. -/
theorem referenceIdeal_pre : Cert.quiescent_ReferenceIdeal_pre_finite_and_third_apart (hReferenceIdeal := Cert.ReferenceIdeal.Gen.facts)
    (hPre_finite_and_third_apart := Cert.Pre.facts) := fun m ρ _ => Cert.Frames.referenceIdeal m ρ trivial

/-- The kernel's result array is the reference's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre.Holds (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RVal.result (StableHlo.launchContents m' c) = (Cert.KernelIdeal.Track.dats m 0 c).arrAt 6 Cert.KernelIdeal.cfg0.N := by
  obtain ⟨K, Fe, X, G, W1, B1, W2, B2, h0, h1, h2, h3, h4, h5, h6, h7, hA⟩ := Cert.Pre.read _ _ _ _ _ _ _ _ hpre
  obtain ⟨g0, g1, g2, g3, g4, g5, g6, g7⟩ := hag
  rw [Cert.KernelIdeal.KVal.final (K := K) (Fe := Fe) (X := X) (G := G) (W1 := W1) (W2 := W2) ⟨h0, h1, h2, h3, h4, h6⟩ hA]
  have A : Cert.ReferenceIdeal.RVal.Args (StableHlo.launchContents m' c) K Fe X G W1 B1 W2 B2 :=
    ⟨fun b a k => (congrFun g0 _).trans (h0 b a k), fun b a k => (congrFun g1 _).trans (h1 b a k), fun b a k => (congrFun g2 _).trans (h2 b a k),
      fun b a k => (congrFun g3 _).trans (h3 b a k), fun o q => (congrFun g4 _).trans (h4 o q), fun o => (congrFun g5 _).trans (h5 o),
      fun o q => (congrFun g6 _).trans (h6 o q), fun o => (congrFun g7 _).trans (h7 o)⟩
  funext i
  have hi : i = ix3 (i 0) (i 1) (i 2) := by
    funext a
    fin_cases a <;> rfl
  rw [hi]
  exact Cert.ReferenceIdeal.RVal.result_eq A (i 0) (i 1) (i 2)

/-- From memories that agree on the arguments and meet the precondition, the kernel and the reference end with equal
    result arrays, their arguments unchanged. -/
theorem algebraic : Cert.algebraic_KernelIdeal_ReferenceIdeal_pre_finite_and_third_apart (hKernelIdeal := Cert.KernelIdeal.Gen.facts)
    (hReferenceIdeal := Cert.ReferenceIdeal.Gen.facts) (hPre_finite_and_third_apart := Cert.Pre.facts) := by
  intro m ρ m' ρ' hpre hagree
  refine ⟨fun c => (Cert.KernelIdeal.Track.dats m 0 c).arrAt 6 Cert.KernelIdeal.cfg0.N, ?_, ?_⟩
  · exact (θ_run Cert.KernelIdeal.defs _ _).mono (fun _ h c => ⟨(h.1.1 c).1 6, h.2.1 c⟩)
      (θ_run_and (Cert.KernelIdeal.Track.run_main m ρ) (Cert.Frames.kernelIdeal m ρ trivial))
  · exact (θ_run Cert.ReferenceIdeal.defs _ _).mono (fun _ h c => ⟨(h c).1.trans (same m m' c (hpre c) (hagree c)), (h c).2⟩)
      (Cert.ReferenceIdeal.Value.run m' ρ')

end Cert.Algebra

end
-- ==== Proof.lean ====
/- The proof of the certificate's claim: the frames of the three programs, the idealization's ledger, and the equality of
   the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The claim of the certificate. -/
theorem claim : Cert.Claim :=
  ⟨Cert.Kernel.Gen.facts, Cert.KernelIdeal.Gen.facts, Cert.ReferenceIdeal.Gen.facts, Cert.Pre.facts,
    Cert.Frames.kernel, Cert.Frames.kernelIdeal, Cert.Algebra.kernelIdeal_pre, Cert.Frames.referenceIdeal,
    Cert.Algebra.referenceIdeal_pre, trivial, Cert.Algebra.algebraic⟩

end Cert.Proof

end
